-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_overflow [hPre_no_overflow : Cert.Pre_no_overflow.Facts] (m : (ℓ : Loc Cert.KernelIdeal.nD Cert.KernelIdeal.τ Cert.KernelIdeal.sig) → Buf (Elt Ideal) ℓ) : Prop :=
  ∀ c : Dev Cert.KernelIdeal.nD,
    (Cert.Pre_no_overflow.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_overflow [hPre_no_overflow : Cert.Pre_no_overflow.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_overflow.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_overflow [hKernelIdeal : Cert.KernelIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_overflow m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_overflow [hReferenceIdeal : Cert.ReferenceIdeal.Facts] [hPre_no_overflow : Cert.Pre_no_overflow.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_overflow m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_bc1" .f32 0x3F91B733#32 ((100000000000000000000 / 87842334540943071199 : ℝ) : EReal)
  ∧ IdealRules.named_const.Statement Cert.KernelIdeal.κ "inv_bc2" .f32 0x3FC78729#32 ((104857600000000000000000000 / 67267626542454041806644399 : ℝ) : EReal)

def algebraic_KernelIdeal_ReferenceIdeal_pre_no_overflow [hKernelIdeal : Cert.KernelIdeal.Facts] [hReferenceIdeal : Cert.ReferenceIdeal.Facts] [hPre_no_overflow : Cert.Pre_no_overflow.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_overflow m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_overflow : Cert.Pre_no_overflow.Facts),
    quiescent_Kernel (hKernel := hKernel)
    ∧ quiescent_KernelIdeal (hKernelIdeal := hKernelIdeal)
    ∧ quiescent_KernelIdeal_pre_no_overflow (hKernelIdeal := hKernelIdeal) (hPre_no_overflow := hPre_no_overflow)
    ∧ quiescent_ReferenceIdeal (hReferenceIdeal := hReferenceIdeal)
    ∧ quiescent_ReferenceIdeal_pre_no_overflow (hReferenceIdeal := hReferenceIdeal) (hPre_no_overflow := hPre_no_overflow)
    ∧ preserves_Kernel_KernelIdeal
    ∧ algebraic_KernelIdeal_ReferenceIdeal_pre_no_overflow (hKernelIdeal := hKernelIdeal) (hReferenceIdeal := hReferenceIdeal) (hPre_no_overflow := hPre_no_overflow)
-- ==== Pre_no_overflow.lean ====
abbrev S16x2432x7168 : Shape := ⟨3, ![16, 2432, 7168]⟩
abbrev S16x2432x224 : Shape := ⟨3, ![16, 2432, 224]⟩
abbrev S2432x7168 : Shape := ⟨2, ![2432, 7168]⟩
abbrev S_ : Shape := ⟨0, ![]⟩

class Facts : Prop where
  bcast_S_S2432x7168 : S_.BroadcastsInDim S2432x7168 (![] : Fin 0 → Fin S2432x7168.rank)
  reducesTo_S2432x7168_S_d0_1 : S2432x7168.ReducesTo [0, 1] S_
  h_S_ : 0 < S_.numel

variable [Facts]

def fn {F : FTy → Type} [FloatOps F] (main_arg0 : FVec F S16x2432x7168 .fp8e5m2) (main_arg1 : IVec S16x2432x224 8) (main_arg2 : FVec F S2432x7168 .f32) (main_arg3 : FVec F S2432x7168 .f32) (main_arg4 : FVec F S2432x7168 .f32) : IVec S_ 1 :=
  let main_v0 : FVec F S2432x7168 .f32 := Host.absf main_arg2
  let main_cst : FVec F S_ .f32 := constant S_ .f32 0x71800000#32
  let main_v1 : FVec F S2432x7168 .f32 := broadcastInDim S2432x7168 ![] bcast_S_S2432x7168 main_cst
  let main_v2 : IVec S2432x7168 1 := cmpf .ole main_v0 main_v1
  let main_c : IVec S_ 1 := constantI S_ 1 1#1
  let main_v3 : IVec S_ 1 := (fun x v => Host.reduce IntOp.andi x v reducesTo_S2432x7168_S_d0_1 h_S_) main_v2 main_c
  let main_v4 : FVec F S2432x7168 .f32 := Host.absf main_arg3
  let main_cst_0 : FVec F S_ .f32 := constant S_ .f32 0x71800000#32
  let main_v5 : FVec F S2432x7168 .f32 := broadcastInDim S2432x7168 ![] bcast_S_S2432x7168 main_cst_0
  let main_v6 : IVec S2432x7168 1 := cmpf .ole main_v4 main_v5
  let main_c_1 : IVec S_ 1 := constantI S_ 1 1#1
  let main_v7 : IVec S_ 1 := (fun x v => Host.reduce IntOp.andi x v reducesTo_S2432x7168_S_d0_1 h_S_) main_v6 main_c_1
  let main_v8 : IVec S_ 1 := andi main_v3 main_v7
  let main_cst_2 : FVec F S_ .f32 := constant S_ .f32 0x00000000#32
  let main_v9 : FVec F S2432x7168 .f32 := broadcastInDim S2432x7168 ![] bcast_S_S2432x7168 main_cst_2
  let main_v10 : IVec S2432x7168 1 := cmpf .oge main_arg4 main_v9
  let main_c_3 : IVec S_ 1 := constantI S_ 1 1#1
  let main_v11 : IVec S_ 1 := (fun x v => Host.reduce IntOp.andi x v reducesTo_S2432x7168_S_d0_1 h_S_) main_v10 main_c_3
  let main_v12 : IVec S_ 1 := andi main_v8 main_v11
  main_v12
-- ==== Kernel.lean ====
abbrev S16x2432x7168 : Shape := ⟨3, ![16, 2432, 7168]⟩
abbrev S16x2432x224 : Shape := ⟨3, ![16, 2432, 224]⟩
abbrev S2432x7168 : Shape := ⟨2, ![2432, 7168]⟩
abbrev S2432x224 : Shape := ⟨2, ![2432, 224]⟩
abbrev S16x32x7168 : Shape := ⟨3, ![16, 32, 7168]⟩
abbrev S16x32x224 : Shape := ⟨3, ![16, 32, 224]⟩
abbrev S32x7168 : Shape := ⟨2, ![32, 7168]⟩
abbrev S32x224 : Shape := ⟨2, ![32, 224]⟩
abbrev S16x16x256 : Shape := ⟨3, ![16, 16, 256]⟩
abbrev S8x128 : Shape := ⟨2, ![8, 128]⟩
abbrev S1x32x224 : Shape := ⟨3, ![1, 32, 224]⟩
abbrev S16x224 : Shape := ⟨2, ![16, 224]⟩
abbrev S1x16x224 : Shape := ⟨3, ![1, 16, 224]⟩
abbrev S16x128 : Shape := ⟨2, ![16, 128]⟩
abbrev S32x128 : Shape := ⟨2, ![32, 128]⟩
abbrev S1x16x128 : Shape := ⟨3, ![1, 16, 128]⟩
abbrev S16x128x1 : Shape := ⟨3, ![16, 128, 1]⟩
abbrev S1x32x128 : Shape := ⟨3, ![1, 32, 128]⟩
abbrev S32x128x1 : Shape := ⟨3, ![32, 128, 1]⟩
abbrev S32x96 : Shape := ⟨2, ![32, 96]⟩

abbrev nBuf : Space → Nat
  | .hbm => 11
  | .vmem => 24
  | .smem => 0
  | _ => 0

abbrev bufTy : (tb : Table) → Fin (tcTables nBuf tb) → BufTy
  | .hbm, ⟨0, _⟩ => ⟨S16x2432x7168, .fp8e5m2⟩
  | .hbm, ⟨1, _⟩ => ⟨S16x2432x224, .i8⟩
  | .hbm, ⟨2, _⟩ => ⟨S2432x7168, .f32⟩
  | .hbm, ⟨3, _⟩ => ⟨S2432x7168, .f32⟩
  | .hbm, ⟨4, _⟩ => ⟨S2432x7168, .f32⟩
  | .hbm, ⟨5, _⟩ => ⟨S2432x7168, .f32⟩
  | .hbm, ⟨6, _⟩ => ⟨S2432x7168, .f32⟩
  | .hbm, ⟨7, _⟩ => ⟨S2432x7168, .f32⟩
  | .hbm, ⟨8, _⟩ => ⟨S2432x7168, .f32⟩
  | .hbm, ⟨9, _⟩ => ⟨S2432x7168, .fp8e4m3⟩
  | .hbm, ⟨10, _⟩ => ⟨S2432x224, .i8⟩
  | .local _ .vmem, ⟨0, _⟩ => ⟨S16x32x7168, .fp8e5m2⟩
  | .local _ .vmem, ⟨1, _⟩ => ⟨S16x32x7168, .fp8e5m2⟩
  | .local _ .vmem, ⟨2, _⟩ => ⟨S16x32x224, .i8⟩
  | .local _ .vmem, ⟨3, _⟩ => ⟨S16x32x224, .i8⟩
  | .local _ .vmem, ⟨4, _⟩ => ⟨S32x7168, .f32⟩
  | .local _ .vmem, ⟨5, _⟩ => ⟨S32x7168, .f32⟩
  | .local _ .vmem, ⟨6, _⟩ => ⟨S32x7168, .f32⟩
  | .local _ .vmem, ⟨7, _⟩ => ⟨S32x7168, .f32⟩
  | .local _ .vmem, ⟨8, _⟩ => ⟨S32x7168, .f32⟩
  | .local _ .vmem, ⟨9, _⟩ => ⟨S32x7168, .f32⟩
  | .local _ .vmem, ⟨10, _⟩ => ⟨S32x7168, .f32⟩
  | .local _ .vmem, ⟨11, _⟩ => ⟨S32x7168, .f32⟩
  | .local _ .vmem, ⟨12, _⟩ => ⟨S32x7168, .f32⟩
  | .local _ .vmem, ⟨13, _⟩ => ⟨S32x7168, .f32⟩
  | .local _ .vmem, ⟨14, _⟩ => ⟨S32x7168, .f32⟩
  | .local _ .vmem, ⟨15, _⟩ => ⟨S32x7168, .f32⟩
  | .local _ .vmem, ⟨16, _⟩ => ⟨S32x7168, .f32⟩
  | .local _ .vmem, ⟨17, _⟩ => ⟨S32x7168, .f32⟩
  | .local _ .vmem, ⟨18, _⟩ => ⟨S32x7168, .fp8e4m3⟩
  | .local _ .vmem, ⟨19, _⟩ => ⟨S32x7168, .fp8e4m3⟩
  | .local _ .vmem, ⟨20, _⟩ => ⟨S32x224, .i8⟩
  | .local _ .vmem, ⟨21, _⟩ => ⟨S32x224, .i8⟩
  | .local _ .vmem, ⟨22, _⟩ => ⟨S16x16x256, .i32⟩
  | .local _ .vmem, ⟨23, _⟩ => ⟨S8x128, .i32⟩
  | _, _ => ⟨S16x2432x7168, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![76], ![false]⟩

@[reducible] def k0_t1_loop : Scf.Loop 32 :=
  let c0_i32_101 : BitVec 32 := 0#32
  let c32_i32_102 : BitVec 32 := 32#32
  let v189 : BitVec 32 := Scalar.addi c0_i32_101 c32_i32_102
  let c1_i32_103 : BitVec 32 := 1#32
  ⟨c0_i32_101, v189, c1_i32_103⟩
def k0_mult1 (k0_t1 : Fin k0_t1_loop.trips) : BitVec 32 :=
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  v201
def k0_off1 (k0_t1 : Fin k0_t1_loop.trips) : Fin 3 → Nat :=
  let c0_118 : Index := 0#32
  let c0_119 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v217 : Index := Scalar.indexCast v202
  ![0, 0, v217.toNat]
def k0_off2 (k0_t1 : Fin k0_t1_loop.trips) : Fin 3 → Nat :=
  let c1_125 : Index := 1#32
  let c0_126 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v235 : Index := Scalar.indexCast v202
  ![1, 0, v235.toNat]
def k0_off3 (k0_t1 : Fin k0_t1_loop.trips) : Fin 3 → Nat :=
  let c2_132 : Index := 2#32
  let c0_133 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v253 : Index := Scalar.indexCast v202
  ![2, 0, v253.toNat]
def k0_off4 (k0_t1 : Fin k0_t1_loop.trips) : Fin 3 → Nat :=
  let c3_139 : Index := 3#32
  let c0_140 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v271 : Index := Scalar.indexCast v202
  ![3, 0, v271.toNat]
def k0_off5 (k0_t1 : Fin k0_t1_loop.trips) : Fin 3 → Nat :=
  let c4_146 : Index := 4#32
  let c0_147 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v289 : Index := Scalar.indexCast v202
  ![4, 0, v289.toNat]
def k0_off6 (k0_t1 : Fin k0_t1_loop.trips) : Fin 3 → Nat :=
  let c5_153 : Index := 5#32
  let c0_154 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v307 : Index := Scalar.indexCast v202
  ![5, 0, v307.toNat]
def k0_off7 (k0_t1 : Fin k0_t1_loop.trips) : Fin 3 → Nat :=
  let c6_160 : Index := 6#32
  let c0_161 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v325 : Index := Scalar.indexCast v202
  ![6, 0, v325.toNat]
def k0_off8 (k0_t1 : Fin k0_t1_loop.trips) : Fin 3 → Nat :=
  let c7_167 : Index := 7#32
  let c0_168 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v343 : Index := Scalar.indexCast v202
  ![7, 0, v343.toNat]
def k0_off9 (k0_t1 : Fin k0_t1_loop.trips) : Fin 3 → Nat :=
  let c8_174 : Index := 8#32
  let c0_175 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v361 : Index := Scalar.indexCast v202
  ![8, 0, v361.toNat]
def k0_off10 (k0_t1 : Fin k0_t1_loop.trips) : Fin 3 → Nat :=
  let c9_181 : Index := 9#32
  let c0_182 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v379 : Index := Scalar.indexCast v202
  ![9, 0, v379.toNat]
def k0_off11 (k0_t1 : Fin k0_t1_loop.trips) : Fin 3 → Nat :=
  let c10_188 : Index := 10#32
  let c0_189 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v397 : Index := Scalar.indexCast v202
  ![10, 0, v397.toNat]
def k0_off12 (k0_t1 : Fin k0_t1_loop.trips) : Fin 3 → Nat :=
  let c11_195 : Index := 11#32
  let c0_196 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v415 : Index := Scalar.indexCast v202
  ![11, 0, v415.toNat]
def k0_off13 (k0_t1 : Fin k0_t1_loop.trips) : Fin 3 → Nat :=
  let c12_202 : Index := 12#32
  let c0_203 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v433 : Index := Scalar.indexCast v202
  ![12, 0, v433.toNat]
def k0_off14 (k0_t1 : Fin k0_t1_loop.trips) : Fin 3 → Nat :=
  let c13_209 : Index := 13#32
  let c0_210 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v451 : Index := Scalar.indexCast v202
  ![13, 0, v451.toNat]
def k0_off15 (k0_t1 : Fin k0_t1_loop.trips) : Fin 3 → Nat :=
  let c14_216 : Index := 14#32
  let c0_217 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v469 : Index := Scalar.indexCast v202
  ![14, 0, v469.toNat]
def k0_off16 (k0_t1 : Fin k0_t1_loop.trips) : Fin 3 → Nat :=
  let c15_223 : Index := 15#32
  let c0_224 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v487 : Index := Scalar.indexCast v202
  ![15, 0, v487.toNat]
def k0_off17 (k0_t1 : Fin k0_t1_loop.trips) : Fin 2 → Nat :=
  let c0_226 : Index := 0#32
  let c0_i32_112 : BitVec 32 := 0#32
  let c0_i32_101 : BitVec 32 := 0#32
  let c1_i32_103 : BitVec 32 := 1#32
  let arg14 : BitVec 32 := Scf.iv c0_i32_101 c1_i32_103 k0_t1
  let v200 : BitVec 32 := Scalar.addi c0_i32_112 arg14
  let c128_i32 : BitVec 32 := 128#32
  let v201 : BitVec 32 := Scalar.muli v200 c128_i32
  let v202 : BitVec 32 := v201
  let v496 : Index := Scalar.indexCast v202
  ![0, v496.toNat]
@[reducible] def k0_t2_loop : Scf.Loop 32 :=
  let c0_i32_106 : BitVec 32 := 0#32
  let c24_i32 : BitVec 32 := 24#32
  let v192 : BitVec 32 := Scalar.addi c0_i32_106 c24_i32
  let c1_i32_107 : BitVec 32 := 1#32
  ⟨c0_i32_106, v192, c1_i32_107⟩
def k0_mult2 (k0_t2 : Fin k0_t2_loop.trips) : BitVec 32 :=
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  v201
def k0_off18 (k0_t2 : Fin k0_t2_loop.trips) : Fin 3 → Nat :=
  let c0_118 : Index := 0#32
  let c0_119 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v217 : Index := Scalar.indexCast v202
  ![0, 0, v217.toNat]
def k0_off19 (k0_t2 : Fin k0_t2_loop.trips) : Fin 3 → Nat :=
  let c1_125 : Index := 1#32
  let c0_126 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v235 : Index := Scalar.indexCast v202
  ![1, 0, v235.toNat]
def k0_off20 (k0_t2 : Fin k0_t2_loop.trips) : Fin 3 → Nat :=
  let c2_132 : Index := 2#32
  let c0_133 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v253 : Index := Scalar.indexCast v202
  ![2, 0, v253.toNat]
def k0_off21 (k0_t2 : Fin k0_t2_loop.trips) : Fin 3 → Nat :=
  let c3_139 : Index := 3#32
  let c0_140 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v271 : Index := Scalar.indexCast v202
  ![3, 0, v271.toNat]
def k0_off22 (k0_t2 : Fin k0_t2_loop.trips) : Fin 3 → Nat :=
  let c4_146 : Index := 4#32
  let c0_147 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v289 : Index := Scalar.indexCast v202
  ![4, 0, v289.toNat]
def k0_off23 (k0_t2 : Fin k0_t2_loop.trips) : Fin 3 → Nat :=
  let c5_153 : Index := 5#32
  let c0_154 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v307 : Index := Scalar.indexCast v202
  ![5, 0, v307.toNat]
def k0_off24 (k0_t2 : Fin k0_t2_loop.trips) : Fin 3 → Nat :=
  let c6_160 : Index := 6#32
  let c0_161 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v325 : Index := Scalar.indexCast v202
  ![6, 0, v325.toNat]
def k0_off25 (k0_t2 : Fin k0_t2_loop.trips) : Fin 3 → Nat :=
  let c7_167 : Index := 7#32
  let c0_168 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v343 : Index := Scalar.indexCast v202
  ![7, 0, v343.toNat]
def k0_off26 (k0_t2 : Fin k0_t2_loop.trips) : Fin 3 → Nat :=
  let c8_174 : Index := 8#32
  let c0_175 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v361 : Index := Scalar.indexCast v202
  ![8, 0, v361.toNat]
def k0_off27 (k0_t2 : Fin k0_t2_loop.trips) : Fin 3 → Nat :=
  let c9_181 : Index := 9#32
  let c0_182 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v379 : Index := Scalar.indexCast v202
  ![9, 0, v379.toNat]
def k0_off28 (k0_t2 : Fin k0_t2_loop.trips) : Fin 3 → Nat :=
  let c10_188 : Index := 10#32
  let c0_189 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v397 : Index := Scalar.indexCast v202
  ![10, 0, v397.toNat]
def k0_off29 (k0_t2 : Fin k0_t2_loop.trips) : Fin 3 → Nat :=
  let c11_195 : Index := 11#32
  let c0_196 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v415 : Index := Scalar.indexCast v202
  ![11, 0, v415.toNat]
def k0_off30 (k0_t2 : Fin k0_t2_loop.trips) : Fin 3 → Nat :=
  let c12_202 : Index := 12#32
  let c0_203 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v433 : Index := Scalar.indexCast v202
  ![12, 0, v433.toNat]
def k0_off31 (k0_t2 : Fin k0_t2_loop.trips) : Fin 3 → Nat :=
  let c13_209 : Index := 13#32
  let c0_210 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v451 : Index := Scalar.indexCast v202
  ![13, 0, v451.toNat]
def k0_off32 (k0_t2 : Fin k0_t2_loop.trips) : Fin 3 → Nat :=
  let c14_216 : Index := 14#32
  let c0_217 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v469 : Index := Scalar.indexCast v202
  ![14, 0, v469.toNat]
def k0_off33 (k0_t2 : Fin k0_t2_loop.trips) : Fin 3 → Nat :=
  let c15_223 : Index := 15#32
  let c0_224 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v487 : Index := Scalar.indexCast v202
  ![15, 0, v487.toNat]
def k0_off34 (k0_t2 : Fin k0_t2_loop.trips) : Fin 2 → Nat :=
  let c0_226 : Index := 0#32
  let c32_i32_112 : BitVec 32 := 32#32
  let c0_i32_106 : BitVec 32 := 0#32
  let c1_i32_107 : BitVec 32 := 1#32
  let arg14 : BitVec 32 := Scf.iv c0_i32_106 c1_i32_107 k0_t2
  let v200 : BitVec 32 := Scalar.addi c32_i32_112 arg14
  let c128_i32 : BitVec 32 := 128#32
  let v201 : BitVec 32 := Scalar.muli v200 c128_i32
  let v202 : BitVec 32 := v201
  let v496 : Index := Scalar.indexCast v202
  ![0, v496.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32x7168 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x224 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x7168 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x7168 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x7168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x7168 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x7168 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x7168 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x224 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_bc1" => some ((100000000000000000000 / 87842334540943071199 : ℝ) : EReal)
  | "inv_bc2" => some ((104857600000000000000000000 / 67267626542454041806644399 : ℝ) : EReal)
  | _ => none
-- ==== ReferenceIdeal.lean ====
abbrev S16x2432x7168 : Shape := ⟨3, ![16, 2432, 7168]⟩
abbrev S16x2432x224 : Shape := ⟨3, ![16, 2432, 224]⟩
abbrev S2432x7168 : Shape := ⟨2, ![2432, 7168]⟩
abbrev S2432x224 : Shape := ⟨2, ![2432, 224]⟩
abbrev S16x2432x224x32 : Shape := ⟨4, ![16, 2432, 224, 32]⟩
abbrev S16x2432x224x1 : Shape := ⟨4, ![16, 2432, 224, 1]⟩
abbrev S2432x224x32 : Shape := ⟨3, ![2432, 224, 32]⟩
abbrev S2432x224x1 : Shape := ⟨3, ![2432, 224, 1]⟩

abbrev nBuf : Space → Nat
  | .hbm => 11
  | .vmem => 11
  | .smem => 0
  | _ => 0

abbrev bufTy : (tb : Table) → Fin (tcTables nBuf tb) → BufTy
  | .hbm, ⟨0, _⟩ => ⟨S16x2432x7168, .fp8e5m2⟩
  | .hbm, ⟨1, _⟩ => ⟨S16x2432x224, .i8⟩
  | .hbm, ⟨2, _⟩ => ⟨S2432x7168, .f32⟩
  | .hbm, ⟨3, _⟩ => ⟨S2432x7168, .f32⟩
  | .hbm, ⟨4, _⟩ => ⟨S2432x7168, .f32⟩
  | .hbm, ⟨5, _⟩ => ⟨S2432x7168, .f32⟩
  | .hbm, ⟨6, _⟩ => ⟨S2432x7168, .f32⟩
  | .hbm, ⟨7, _⟩ => ⟨S2432x7168, .f32⟩
  | .hbm, ⟨8, _⟩ => ⟨S2432x7168, .f32⟩
  | .hbm, ⟨9, _⟩ => ⟨S2432x7168, .fp8e4m3⟩
  | .hbm, ⟨10, _⟩ => ⟨S2432x224, .i8⟩
  | .local _ .vmem, ⟨0, _⟩ => ⟨S16x2432x7168, .fp8e5m2⟩
  | .local _ .vmem, ⟨1, _⟩ => ⟨S16x2432x224, .i8⟩
  | .local _ .vmem, ⟨2, _⟩ => ⟨S2432x7168, .f32⟩
  | .local _ .vmem, ⟨3, _⟩ => ⟨S2432x7168, .f32⟩
  | .local _ .vmem, ⟨4, _⟩ => ⟨S2432x7168, .f32⟩
  | .local _ .vmem, ⟨5, _⟩ => ⟨S2432x7168, .f32⟩
  | .local _ .vmem, ⟨6, _⟩ => ⟨S2432x7168, .f32⟩
  | .local _ .vmem, ⟨7, _⟩ => ⟨S2432x7168, .f32⟩
  | .local _ .vmem, ⟨8, _⟩ => ⟨S2432x7168, .f32⟩
  | .local _ .vmem, ⟨9, _⟩ => ⟨S2432x7168, .fp8e4m3⟩
  | .local _ .vmem, ⟨10, _⟩ => ⟨S2432x224, .i8⟩
  | _, _ => ⟨S16x2432x7168, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "bc1" => some ((87842334540943071199 / 100000000000000000000 : ℝ) : EReal)
  | "bc2" => some ((67267626542454041806644399 / 104857600000000000000000000 : ℝ) : EReal)
  | "ln2" => some ((Real.log 2 : ℝ) : EReal)
  | _ => none

abbrev grid0 : Pipeline.Grid := .none

abbrev stage0_0 : Fin 1 → Memref sig .tc .vmem S16x2432x7168 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2432x224 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2432x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2432x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2432x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2432x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2432x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2432x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2432x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2432x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2432x224 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelFrame.lean ====
/-
  The frame of the kernel as written, at any float semantics: every execution of @main ends, with the argument arrays
  as they were and every semaphore counter at zero. What the kernel leaves in its six results is not named here.
-/
module

public import proofs.«01_k».proof.Proof.Gen.Kernel.Frame
public import proofs.«01_k».proof.Proof.Gen.Kernel.Loops
public import Idealize.ShloMosaic.Lib.Tactic
public import Idealize.ShloMosaic.Lib.Pipeline.Kit
public import Idealize.ShloMosaic.Lib.Quiescent

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body run once: from the five input blocks, the six output blocks and the scratch at anything, to its return with
    the inputs as they were and the rest at something. -/
theorem sound_kernel (c : Dev nD) (i : grid0.Coords) (arg1 : Memref sig .tc .vmem S16x32x7168 .fp8e5m2) (harg1 : arg1.IsWhole) (arg2 : Memref sig .tc .vmem S16x32x224 .i8) (harg2 : arg2.IsWhole) (arg3 : Memref sig .tc .vmem S32x7168 .f32) (harg3 : arg3.IsWhole) (arg4 : Memref sig .tc .vmem S32x7168 .f32) (harg4 : arg4.IsWhole) (arg5 : Memref sig .tc .vmem S32x7168 .f32) (harg5 : arg5.IsWhole) (arg6 : Memref sig .tc .vmem S32x7168 .f32) (harg6 : arg6.IsWhole) (arg7 : Memref sig .tc .vmem S32x7168 .f32) (harg7 : arg7.IsWhole) (arg8 : Memref sig .tc .vmem S32x7168 .f32) (harg8 : arg8.IsWhole) (arg9 : Memref sig .tc .vmem S32x7168 .f32) (harg9 : arg9.IsWhole) (arg10 : Memref sig .tc .vmem S32x7168 .fp8e4m3) (harg10 : arg10.IsWhole) (arg11 : Memref sig .tc .vmem S32x224 .i8) (harg11 : arg11.IsWhole) (arg12 : Memref sig .tc .vmem S16x16x256 .i32) (harg12 : arg12.IsWhole) (arg13 : Memref sig .tc .vmem S8x128 .i32) (harg13 : arg13.IsWhole)
    (x1 : Vec F S16x32x7168 .fp8e5m2) (x2 : Vec F S16x32x224 .i8) (x3 x4 x5 : Vec F S32x7168 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) Set.univ
          (cc0_zero_rs_adamw i arg1 harg1 arg2 harg2 arg3 harg3 arg4 harg4 arg5 harg5 arg6 harg6 arg7 harg7 arg8 harg8 arg9 harg9 arg10 harg10 arg11 harg11 arg12 harg12 arg13 harg13) K := by
  simp only [cc0_zero_rs_adamw_eq_skeleton]; unfold cc0_zero_rs_adamw_skel
  simp only [k0_part27_eq_skeleton, k0_part28_eq_skeleton, k0_part29_eq_skeleton, k0_part30_eq_skeleton, k0_part31_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- The six output windows are forgotten: nothing here reads what the kernel leaves in them. -/
def forgets : Fin 11 → Bool := fun w => decide (5 ≤ w.val)

/-- The proof data: each array as the region finds it, an input's block left in place, an output's unnamed. -/
def dats (_ : Fin 1) (c : Dev nD) : Dat τ (Elt F) Unit ℕ (UR sig nD τ) ℕ cfg0 c where
  A w := V m c (Pipeline.arrRef spec0 w)
  after
    | 0 => iblk m c 0 | 1 => iblk m c 1 | 2 => iblk m c 2 | 3 => iblk m c 3 | 4 => iblk m c 4
    | 5 => Dat.unnamed (cfg := cfg0) 5 | 6 => Dat.unnamed (cfg := cfg0) 6 | 7 => Dat.unnamed (cfg := cfg0) 7
    | 8 => Dat.unnamed (cfg := cfg0) 8 | 9 => Dat.unnamed (cfg := cfg0) 9 | 10 => Dat.unnamed (cfg := cfg0) 10
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- The region's invariant opened: the two scratch buffers at some contents each, and the generator register. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨HS, HT⟩, Hg⟩, Ho, ⟨%d0, H0⟩, ⟨%d1, H1⟩, ⟨%d2, H2⟩, ⟨%d3, H3⟩, ⟨%d4, H4⟩, H5, H6, H7, H8, H9, H10⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS HT Hg]
  · isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation with the outputs forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1.arr_in c 0 rfl, h.1.arr_in c 1 rfl, h.1.arr_in c 2 rfl,
    h.1.arr_in c 3 rfl, h.1.arr_in c 4 rfl⟩, h.2⟩) (run_main m ρ)

end Cert.Proof.KernelFrame

end
-- ==== Proof.KernelIdealFrame.lean ====
/-
  The frame of the idealized kernel, at any float semantics: every execution of @main ends, with the argument arrays
  as they were and every semaphore counter at zero. What the kernel leaves in its six results is not named here.
-/
module

public import proofs.«01_k».proof.Proof.Gen.KernelIdeal.Frame
public import proofs.«01_k».proof.Proof.Gen.KernelIdeal.Loops
public import Idealize.ShloMosaic.Lib.Tactic
public import Idealize.ShloMosaic.Lib.Pipeline.Kit
public import Idealize.ShloMosaic.Lib.Quiescent

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body run once: from the five input blocks, the six output blocks and the scratch at anything, to its return with
    the inputs as they were and the rest at something. -/
theorem sound_kernel (c : Dev nD) (i : grid0.Coords) (arg1 : Memref sig .tc .vmem S16x32x7168 .fp8e5m2) (harg1 : arg1.IsWhole) (arg2 : Memref sig .tc .vmem S16x32x224 .i8) (harg2 : arg2.IsWhole) (arg3 : Memref sig .tc .vmem S32x7168 .f32) (harg3 : arg3.IsWhole) (arg4 : Memref sig .tc .vmem S32x7168 .f32) (harg4 : arg4.IsWhole) (arg5 : Memref sig .tc .vmem S32x7168 .f32) (harg5 : arg5.IsWhole) (arg6 : Memref sig .tc .vmem S32x7168 .f32) (harg6 : arg6.IsWhole) (arg7 : Memref sig .tc .vmem S32x7168 .f32) (harg7 : arg7.IsWhole) (arg8 : Memref sig .tc .vmem S32x7168 .f32) (harg8 : arg8.IsWhole) (arg9 : Memref sig .tc .vmem S32x7168 .f32) (harg9 : arg9.IsWhole) (arg10 : Memref sig .tc .vmem S32x7168 .fp8e4m3) (harg10 : arg10.IsWhole) (arg11 : Memref sig .tc .vmem S32x224 .i8) (harg11 : arg11.IsWhole) (arg12 : Memref sig .tc .vmem S16x16x256 .i32) (harg12 : arg12.IsWhole) (arg13 : Memref sig .tc .vmem S8x128 .i32) (harg13 : arg13.IsWhole)
    (x1 : Vec F S16x32x7168 .fp8e5m2) (x2 : Vec F S16x32x224 .i8) (x3 x4 x5 : Vec F S32x7168 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) Set.univ
          (cc0_zero_rs_adamw i arg1 harg1 arg2 harg2 arg3 harg3 arg4 harg4 arg5 harg5 arg6 harg6 arg7 harg7 arg8 harg8 arg9 harg9 arg10 harg10 arg11 harg11 arg12 harg12 arg13 harg13) K := by
  simp only [cc0_zero_rs_adamw_eq_skeleton]; unfold cc0_zero_rs_adamw_skel
  simp only [k0_part27_eq_skeleton, k0_part28_eq_skeleton, k0_part29_eq_skeleton, k0_part30_eq_skeleton, k0_part31_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- The six output windows are forgotten: nothing here reads what the kernel leaves in them. -/
def forgets : Fin 11 → Bool := fun w => decide (5 ≤ w.val)

/-- The proof data: each array as the region finds it, an input's block left in place, an output's unnamed. -/
def dats (_ : Fin 1) (c : Dev nD) : Dat τ (Elt F) Unit ℕ (UR sig nD τ) ℕ cfg0 c where
  A w := V m c (Pipeline.arrRef spec0 w)
  after
    | 0 => iblk m c 0 | 1 => iblk m c 1 | 2 => iblk m c 2 | 3 => iblk m c 3 | 4 => iblk m c 4
    | 5 => Dat.unnamed (cfg := cfg0) 5 | 6 => Dat.unnamed (cfg := cfg0) 6 | 7 => Dat.unnamed (cfg := cfg0) 7
    | 8 => Dat.unnamed (cfg := cfg0) 8 | 9 => Dat.unnamed (cfg := cfg0) 9 | 10 => Dat.unnamed (cfg := cfg0) 10
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d))

/-- The region's invariant opened: the two scratch buffers at some contents each, and the generator register. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨HS, HT⟩, Hg⟩, Ho, ⟨%d0, H0⟩, ⟨%d1, H1⟩, ⟨%d2, H2⟩, ⟨%d3, H3⟩, ⟨%d4, H4⟩, H5, H6, H7, H8, H9, H10⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [HS HT Hg]
  · isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation with the outputs forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1.arr_in c 0 rfl, h.1.arr_in c 1 rfl, h.1.arr_in c 2 rfl,
    h.1.arr_in c 3 rfl, h.1.arr_in c 4 rfl⟩, h.2⟩) (run_main m ρ)

end Cert.Proof.KernelIdealFrame

end
-- ==== Proof.Tile.lean ====
/-
  One tile of the idealized kernel: the functions of a tile of 128 columns, and what a trip of each loop computes as
  these functions of what it loads.
-/
module

public import proofs.«01_k».proof.Proof.Gen.KernelIdeal.Frame
public import proofs.«01_k».proof.Proof.Gen.KernelIdeal.Loops

@[expose] public section

set_option maxRecDepth 16384

noncomputable section

namespace Cert.Proof.Tile

open Cert.KernelIdeal Cert.KernelIdeal.Gen
open Idealize.ShloMosaic Idealize.ShloMosaic.TcCoe

variable {F : FTy → Type} [FloatOps F] [Named F]

/-! ## The functions of one tile of 128 columns -/

/-- The column group of a lane, counted from the tile's first column of the scratch half: four groups to a tile. -/
def groupIdx (gi : IVec S16x128 32) (j : BitVec 32) : IVec S16x128 32 :=
  addi gi (broadcast S16x128 (Scalar.muli j 4#32))

/-- A lane index below zero counts from the end. -/
def wrapIdx (idx : IVec S16x128 32) : IVec S16x128 32 :=
  shapeCast S16x128 (shapeCast S16x128x1 (select (cmpi .slt idx (broadcast S16x128 0#32))
    (addi idx (broadcast S16x128 128#32)) idx) shapeCasts_S16x128_S16x128x1) shapeCasts_S16x128x1_S16x128

/-- The scales of one rank at the tile's columns: the words of the scratch gathered by group, read as pairs of bf16. -/
def scaleTile (idx : IVec S16x128 32) (w : Vec F S1x16x128 .i32) : FVec F S32x128 .bf16 :=
  bitcastToFloat .bf16 (bitcast S32x128 16 (dynamicGather 1 (shapeCast S16x128 w shapeCasts_S1x16x128_S16x128) (wrapIdx idx))
    bitcasts_S16x128_w32_S32x128_w16)

/-- One rank's gradient at the tile. -/
def rankTile (idx : IVec S16x128 32) (w : Vec F S1x16x128 .i32) (c : Vec F S1x32x128 .fp8e5m2) : FVec F S32x128 .f32 :=
  extf .f32 (mulf (extf .bf16 (shapeCast S32x128 c shapeCasts_S1x32x128_S32x128 : FVec F S32x128 .fp8e5m2) bitsLt_fp8e5m2_bf16)
    (scaleTile idx w)) bitsLt_bf16_f32

/-- The sum over the first `n` ranks. -/
def sumTile (idx : IVec S16x128 32) (w : ℕ → Vec F S1x16x128 .i32) (c : ℕ → Vec F S1x32x128 .fp8e5m2) : ℕ → FVec F S32x128 .f32
  | 0 => broadcast S32x128 (Scalar.ofBits .f32 0x00000000#32)
  | n + 1 => addf (sumTile idx w c n) (rankTile idx (w n) (c n))

/-- The mean gradient at the tile. -/
def gradTile (idx : IVec S16x128 32) (w : ℕ → Vec F S1x16x128 .i32) (c : ℕ → Vec F S1x32x128 .fp8e5m2) : FVec F S32x128 .f32 :=
  mulf (sumTile idx w c 16) (broadcast S32x128 (Scalar.ofBits .f32 0x3D800000#32))

/-- One step of the search for the bit pattern of `a`: keep the bit if the pattern with it is at most `a`. -/
def searchStep (a : FVec F S32x128 .f32) (bit : BitVec 32) (n : IVec S32x128 32) : IVec S32x128 32 :=
  select (cmpf .ole (bitcastToFloat .f32 (ori n (broadcast S32x128 bit))) a) (ori n (broadcast S32x128 bit)) n

/-- The first `s` steps of the search, from bit 30 down. -/
def searchTile (a : FVec F S32x128 .f32) : ℕ → IVec S32x128 32
  | 0 => broadcast S32x128 0#32
  | s + 1 => searchStep a (BitVec.ofNat 32 (2 ^ (30 - s))) (searchTile a s)

/-- The top halves of a tile of patterns, two rows to a word: row `s` above, row `16 + s` below. -/
def packTile (n : IVec S32x128 32) : IVec S16x128 32 :=
  ori (andi (extractStridedSlice S16x128 ![0, 0] n slices_S32x128_o0_0_S16x128) (broadcast S16x128 4294901760#32))
    (shrui (extractStridedSlice S16x128 ![16, 0] n slices_S32x128_o16_0_S16x128) (broadcast S16x128 16#32))

/-- The larger of each half word and of the one `128 - r` lanes further on. -/
def rollMax (r : BitVec 32) (p : IVec S16x128 32) : IVec S16x128 32 :=
  bitcast S16x128 32 (maxsi (bitcast S32x128 16 p bitcasts_S16x128_w32_S32x128_w16)
    (bitcast S32x128 16 (dynamicRotate 1 r none p rotates_S16x128_d1) bitcasts_S16x128_w32_S32x128_w16))
    bitcasts_S32x128_w16_S16x128_w32

/-- The maximum of each half word over its group of 32 lanes, at every lane of the group. -/
def groupMax (first : IVec S16x128 32) (p : IVec S16x128 32) : IVec S16x128 32 :=
  dynamicGather 1 (rollMax 127#32 (rollMax 126#32 (rollMax 124#32 (rollMax 120#32 (rollMax 112#32 p))))) (wrapIdx first)

/-- The scale byte that the maxima name: one above the exponent, and 127 for a zero exponent. -/
def byteTile (q : IVec S16x128 32) : IVec S32x128 32 :=
  let e : IVec S32x128 32 := concatenate S32x128 0 [⟨S16x128, shrui q (broadcast S16x128 23#32)⟩,
    ⟨S16x128, andi (shrui q (broadcast S16x128 7#32)) (broadcast S16x128 255#32)⟩] concatenates_S16x128_S16x128_S32x128_d0
  select (cmpi .eq e (broadcast S32x128 0#32)) (broadcast S32x128 127#32) (addi e (broadcast S32x128 1#32))

/-- The codes of a tile of new weights under their scale bytes. -/
def codeTile (x : FVec F S32x128 .f32) (b : IVec S32x128 32) : FVec F S32x128 .fp8e4m3 :=
  truncf .fp8e4m3 (minimumf (broadcast S32x128 (Scalar.ofBits .f32 0x43E00000#32))
    (maximumf (broadcast S32x128 (Scalar.ofBits .f32 0xC3E00000#32))
      (mulf x (bitcastToFloat .f32 (shli (subi (broadcast S32x128 254#32) b) (broadcast S32x128 23#32)))))) bitsLt_fp8e4m3_f32

/-- The scale bytes of a tile whose new weights, divided by 448 in absolute value, are `a`. -/
def scaleBytes (first : IVec S16x128 32) (a : FVec F S32x128 .f32) : IVec S32x128 32 :=
  byteTile (groupMax first (packTile (searchTile a 31)))

/-! ## A trip of loop 1 -/

/-- The codes that trip `k` of loop 1 loads, rank by rank. -/
def codes1 (arg1 : Memref sig .tc .vmem S16x32x7168 .fp8e5m2) (X1 : BufTy.Contents (Elt F) arg1.view.ty) (k : Fin k0_t1_loop.trips) :
    ℕ → Vec F S1x32x128 .fp8e5m2
  | 0 => View.readAt (Elt F) arg1.view (Rect.unit (s := S16x32x7168) (k0_off1 k) S1x32x128.size (k0_off1_inb k)).toLoadRect X1
  | 1 => View.readAt (Elt F) arg1.view (Rect.unit (s := S16x32x7168) (k0_off2 k) S1x32x128.size (k0_off2_inb k)).toLoadRect X1
  | 2 => View.readAt (Elt F) arg1.view (Rect.unit (s := S16x32x7168) (k0_off3 k) S1x32x128.size (k0_off3_inb k)).toLoadRect X1
  | 3 => View.readAt (Elt F) arg1.view (Rect.unit (s := S16x32x7168) (k0_off4 k) S1x32x128.size (k0_off4_inb k)).toLoadRect X1
  | 4 => View.readAt (Elt F) arg1.view (Rect.unit (s := S16x32x7168) (k0_off5 k) S1x32x128.size (k0_off5_inb k)).toLoadRect X1
  | 5 => View.readAt (Elt F) arg1.view (Rect.unit (s := S16x32x7168) (k0_off6 k) S1x32x128.size (k0_off6_inb k)).toLoadRect X1
  | 6 => View.readAt (Elt F) arg1.view (Rect.unit (s := S16x32x7168) (k0_off7 k) S1x32x128.size (k0_off7_inb k)).toLoadRect X1
  | 7 => View.readAt (Elt F) arg1.view (Rect.unit (s := S16x32x7168) (k0_off8 k) S1x32x128.size (k0_off8_inb k)).toLoadRect X1
  | 8 => View.readAt (Elt F) arg1.view (Rect.unit (s := S16x32x7168) (k0_off9 k) S1x32x128.size (k0_off9_inb k)).toLoadRect X1
  | 9 => View.readAt (Elt F) arg1.view (Rect.unit (s := S16x32x7168) (k0_off10 k) S1x32x128.size (k0_off10_inb k)).toLoadRect X1
  | 10 => View.readAt (Elt F) arg1.view (Rect.unit (s := S16x32x7168) (k0_off11 k) S1x32x128.size (k0_off11_inb k)).toLoadRect X1
  | 11 => View.readAt (Elt F) arg1.view (Rect.unit (s := S16x32x7168) (k0_off12 k) S1x32x128.size (k0_off12_inb k)).toLoadRect X1
  | 12 => View.readAt (Elt F) arg1.view (Rect.unit (s := S16x32x7168) (k0_off13 k) S1x32x128.size (k0_off13_inb k)).toLoadRect X1
  | 13 => View.readAt (Elt F) arg1.view (Rect.unit (s := S16x32x7168) (k0_off14 k) S1x32x128.size (k0_off14_inb k)).toLoadRect X1
  | 14 => View.readAt (Elt F) arg1.view (Rect.unit (s := S16x32x7168) (k0_off15 k) S1x32x128.size (k0_off15_inb k)).toLoadRect X1
  | _ => View.readAt (Elt F) arg1.view (Rect.unit (s := S16x32x7168) (k0_off16 k) S1x32x128.size (k0_off16_inb k)).toLoadRect X1

/-- The scale words that loop 1 loads, rank by rank. -/
def words1 (arg12 : Memref sig .tc .vmem S16x16x256 .i32) (X12 : BufTy.Contents (Elt F) arg12.view.ty) : ℕ → Vec F S1x16x128 .i32
  | 0 => View.readAt (Elt F) arg12.view (Rect.unit (s := S16x16x256) ![0, 0, 0] S1x16x128.size inb_S16x16x256_S1x16x128_0_0_0).toLoadRect X12
  | 1 => View.readAt (Elt F) arg12.view (Rect.unit (s := S16x16x256) ![1, 0, 0] S1x16x128.size inb_S16x16x256_S1x16x128_1_0_0).toLoadRect X12
  | 2 => View.readAt (Elt F) arg12.view (Rect.unit (s := S16x16x256) ![2, 0, 0] S1x16x128.size inb_S16x16x256_S1x16x128_2_0_0).toLoadRect X12
  | 3 => View.readAt (Elt F) arg12.view (Rect.unit (s := S16x16x256) ![3, 0, 0] S1x16x128.size inb_S16x16x256_S1x16x128_3_0_0).toLoadRect X12
  | 4 => View.readAt (Elt F) arg12.view (Rect.unit (s := S16x16x256) ![4, 0, 0] S1x16x128.size inb_S16x16x256_S1x16x128_4_0_0).toLoadRect X12
  | 5 => View.readAt (Elt F) arg12.view (Rect.unit (s := S16x16x256) ![5, 0, 0] S1x16x128.size inb_S16x16x256_S1x16x128_5_0_0).toLoadRect X12
  | 6 => View.readAt (Elt F) arg12.view (Rect.unit (s := S16x16x256) ![6, 0, 0] S1x16x128.size inb_S16x16x256_S1x16x128_6_0_0).toLoadRect X12
  | 7 => View.readAt (Elt F) arg12.view (Rect.unit (s := S16x16x256) ![7, 0, 0] S1x16x128.size inb_S16x16x256_S1x16x128_7_0_0).toLoadRect X12
  | 8 => View.readAt (Elt F) arg12.view (Rect.unit (s := S16x16x256) ![8, 0, 0] S1x16x128.size inb_S16x16x256_S1x16x128_8_0_0).toLoadRect X12
  | 9 => View.readAt (Elt F) arg12.view (Rect.unit (s := S16x16x256) ![9, 0, 0] S1x16x128.size inb_S16x16x256_S1x16x128_9_0_0).toLoadRect X12
  | 10 => View.readAt (Elt F) arg12.view (Rect.unit (s := S16x16x256) ![10, 0, 0] S1x16x128.size inb_S16x16x256_S1x16x128_10_0_0).toLoadRect X12
  | 11 => View.readAt (Elt F) arg12.view (Rect.unit (s := S16x16x256) ![11, 0, 0] S1x16x128.size inb_S16x16x256_S1x16x128_11_0_0).toLoadRect X12
  | 12 => View.readAt (Elt F) arg12.view (Rect.unit (s := S16x16x256) ![12, 0, 0] S1x16x128.size inb_S16x16x256_S1x16x128_12_0_0).toLoadRect X12
  | 13 => View.readAt (Elt F) arg12.view (Rect.unit (s := S16x16x256) ![13, 0, 0] S1x16x128.size inb_S16x16x256_S1x16x128_13_0_0).toLoadRect X12
  | 14 => View.readAt (Elt F) arg12.view (Rect.unit (s := S16x16x256) ![14, 0, 0] S1x16x128.size inb_S16x16x256_S1x16x128_14_0_0).toLoadRect X12
  | _ => View.readAt (Elt F) arg12.view (Rect.unit (s := S16x16x256) ![15, 0, 0] S1x16x128.size inb_S16x16x256_S1x16x128_15_0_0).toLoadRect X12

/-- The block of 128 columns of an array of 7168 that trip `k` of loop 1 loads. -/
def cols1 (arg : Memref sig .tc .vmem S32x7168 .f32) (X : BufTy.Contents (Elt F) arg.view.ty) (k : Fin k0_t1_loop.trips) : Vec F S32x128 .f32 :=
  View.readAt (Elt F) arg.view (Rect.unit (s := S32x7168) (k0_off17 k) S32x128.size (k0_off17_inb k)).toLoadRect X

section
variable (𝒱 : Variants) (c : Dev nD) (bd : Option 𝒱.V) (i : grid0.Coords) (arg1 : Memref sig .tc .vmem S16x32x7168 .fp8e5m2) (harg1 : arg1.IsWhole) (arg2 : Memref sig .tc .vmem S16x32x224 .i8) (harg2 : arg2.IsWhole) (arg3 : Memref sig .tc .vmem S32x7168 .f32) (harg3 : arg3.IsWhole) (arg4 : Memref sig .tc .vmem S32x7168 .f32) (harg4 : arg4.IsWhole) (arg5 : Memref sig .tc .vmem S32x7168 .f32) (harg5 : arg5.IsWhole) (arg6 : Memref sig .tc .vmem S32x7168 .f32) (harg6 : arg6.IsWhole) (arg7 : Memref sig .tc .vmem S32x7168 .f32) (harg7 : arg7.IsWhole) (arg8 : Memref sig .tc .vmem S32x7168 .f32) (harg8 : arg8.IsWhole) (arg9 : Memref sig .tc .vmem S32x7168 .f32) (harg9 : arg9.IsWhole) (arg10 : Memref sig .tc .vmem S32x7168 .fp8e4m3) (harg10 : arg10.IsWhole) (arg11 : Memref sig .tc .vmem S32x224 .i8) (harg11 : arg11.IsWhole) (arg12 : Memref sig .tc .vmem S16x16x256 .i32) (harg12 : arg12.IsWhole) (arg13 : Memref sig .tc .vmem S8x128 .i32) (harg13 : arg13.IsWhole) (v160 : IVec S16x128 32) (c32_i32 : BitVec 32) (v162 v165 : IVec S16x128 32) (v167 : IVec S16x128 1) (X1 : BufTy.Contents (Elt F) arg1.view.ty) (X3 : BufTy.Contents (Elt F) arg3.view.ty) (X4 : BufTy.Contents (Elt F) arg4.view.ty) (X5 : BufTy.Contents (Elt F) arg5.view.ty) (X12 : BufTy.Contents (Elt F) arg12.view.ty) (k : Fin k0_t1_loop.trips)

/-- The mean gradient of trip `k` of loop 1. -/
def grad1 : FVec F S32x128 .f32 :=
  gradTile (groupIdx (k0_pay1 v160 c32_i32 v162 v165 v167) (Scf.iv 0#32 1#32 k)) (words1 arg12 X12) (codes1 arg1 X1 k)

theorem grad1_eq : trip_k0_t1.sl.v495 arg1 arg12 v160 c32_i32 v162 v165 v167 X1 X12 k
    = grad1 arg1 arg12 v160 c32_i32 v162 v165 v167 X1 X12 k := rfl

/-- The new weights of trip `k` of loop 1. -/
def master1 : FVec F S32x128 .f32 :=
  k0_pay27 (grad1 arg1 arg12 v160 c32_i32 v162 v165 v167 X1 X12 k) (cols1 arg3 X3 k) (cols1 arg4 X4 k) (cols1 arg5 X5 k)

/-- Their scale bytes. -/
def bytes1 : IVec S32x128 32 :=
  scaleBytes (k0_pay2 v160 c32_i32 v162 v165 v167)
    (k0_pay28 (grad1 arg1 arg12 v160 c32_i32 v162 v165 v167 X1 X12 k) (cols1 arg3 X3 k) (cols1 arg4 X4 k) (cols1 arg5 X5 k))

theorem bytes1_eq : trip_k0_t1.sl.v746 arg1 arg3 arg4 arg5 arg12 v160 c32_i32 v162 v165 v167 X1 X3 X4 X5 X12 k
    = bytes1 arg1 arg3 arg4 arg5 arg12 v160 c32_i32 v162 v165 v167 X1 X3 X4 X5 X12 k := rfl
end

/-! ## A trip of loop 2 -/

/-- The codes that trip `k` of loop 2 loads, rank by rank. -/
def codes2 (arg1 : Memref sig .tc .vmem S16x32x7168 .fp8e5m2) (X1 : BufTy.Contents (Elt F) arg1.view.ty) (k : Fin k0_t2_loop.trips) :
    ℕ → Vec F S1x32x128 .fp8e5m2
  | 0 => View.readAt (Elt F) arg1.view (Rect.unit (s := S16x32x7168) (k0_off18 k) S1x32x128.size (k0_off18_inb k)).toLoadRect X1
  | 1 => View.readAt (Elt F) arg1.view (Rect.unit (s := S16x32x7168) (k0_off19 k) S1x32x128.size (k0_off19_inb k)).toLoadRect X1
  | 2 => View.readAt (Elt F) arg1.view (Rect.unit (s := S16x32x7168) (k0_off20 k) S1x32x128.size (k0_off20_inb k)).toLoadRect X1
  | 3 => View.readAt (Elt F) arg1.view (Rect.unit (s := S16x32x7168) (k0_off21 k) S1x32x128.size (k0_off21_inb k)).toLoadRect X1
  | 4 => View.readAt (Elt F) arg1.view (Rect.unit (s := S16x32x7168) (k0_off22 k) S1x32x128.size (k0_off22_inb k)).toLoadRect X1
  | 5 => View.readAt (Elt F) arg1.view (Rect.unit (s := S16x32x7168) (k0_off23 k) S1x32x128.size (k0_off23_inb k)).toLoadRect X1
  | 6 => View.readAt (Elt F) arg1.view (Rect.unit (s := S16x32x7168) (k0_off24 k) S1x32x128.size (k0_off24_inb k)).toLoadRect X1
  | 7 => View.readAt (Elt F) arg1.view (Rect.unit (s := S16x32x7168) (k0_off25 k) S1x32x128.size (k0_off25_inb k)).toLoadRect X1
  | 8 => View.readAt (Elt F) arg1.view (Rect.unit (s := S16x32x7168) (k0_off26 k) S1x32x128.size (k0_off26_inb k)).toLoadRect X1
  | 9 => View.readAt (Elt F) arg1.view (Rect.unit (s := S16x32x7168) (k0_off27 k) S1x32x128.size (k0_off27_inb k)).toLoadRect X1
  | 10 => View.readAt (Elt F) arg1.view (Rect.unit (s := S16x32x7168) (k0_off28 k) S1x32x128.size (k0_off28_inb k)).toLoadRect X1
  | 11 => View.readAt (Elt F) arg1.view (Rect.unit (s := S16x32x7168) (k0_off29 k) S1x32x128.size (k0_off29_inb k)).toLoadRect X1
  | 12 => View.readAt (Elt F) arg1.view (Rect.unit (s := S16x32x7168) (k0_off30 k) S1x32x128.size (k0_off30_inb k)).toLoadRect X1
  | 13 => View.readAt (Elt F) arg1.view (Rect.unit (s := S16x32x7168) (k0_off31 k) S1x32x128.size (k0_off31_inb k)).toLoadRect X1
  | 14 => View.readAt (Elt F) arg1.view (Rect.unit (s := S16x32x7168) (k0_off32 k) S1x32x128.size (k0_off32_inb k)).toLoadRect X1
  | _ => View.readAt (Elt F) arg1.view (Rect.unit (s := S16x32x7168) (k0_off33 k) S1x32x128.size (k0_off33_inb k)).toLoadRect X1

/-- The scale words that loop 2 loads, rank by rank. -/
def words2 (arg12 : Memref sig .tc .vmem S16x16x256 .i32) (X12 : BufTy.Contents (Elt F) arg12.view.ty) : ℕ → Vec F S1x16x128 .i32
  | 0 => View.readAt (Elt F) arg12.view (Rect.unit (s := S16x16x256) ![0, 0, 128] S1x16x128.size inb_S16x16x256_S1x16x128_0_0_128).toLoadRect X12
  | 1 => View.readAt (Elt F) arg12.view (Rect.unit (s := S16x16x256) ![1, 0, 128] S1x16x128.size inb_S16x16x256_S1x16x128_1_0_128).toLoadRect X12
  | 2 => View.readAt (Elt F) arg12.view (Rect.unit (s := S16x16x256) ![2, 0, 128] S1x16x128.size inb_S16x16x256_S1x16x128_2_0_128).toLoadRect X12
  | 3 => View.readAt (Elt F) arg12.view (Rect.unit (s := S16x16x256) ![3, 0, 128] S1x16x128.size inb_S16x16x256_S1x16x128_3_0_128).toLoadRect X12
  | 4 => View.readAt (Elt F) arg12.view (Rect.unit (s := S16x16x256) ![4, 0, 128] S1x16x128.size inb_S16x16x256_S1x16x128_4_0_128).toLoadRect X12
  | 5 => View.readAt (Elt F) arg12.view (Rect.unit (s := S16x16x256) ![5, 0, 128] S1x16x128.size inb_S16x16x256_S1x16x128_5_0_128).toLoadRect X12
  | 6 => View.readAt (Elt F) arg12.view (Rect.unit (s := S16x16x256) ![6, 0, 128] S1x16x128.size inb_S16x16x256_S1x16x128_6_0_128).toLoadRect X12
  | 7 => View.readAt (Elt F) arg12.view (Rect.unit (s := S16x16x256) ![7, 0, 128] S1x16x128.size inb_S16x16x256_S1x16x128_7_0_128).toLoadRect X12
  | 8 => View.readAt (Elt F) arg12.view (Rect.unit (s := S16x16x256) ![8, 0, 128] S1x16x128.size inb_S16x16x256_S1x16x128_8_0_128).toLoadRect X12
  | 9 => View.readAt (Elt F) arg12.view (Rect.unit (s := S16x16x256) ![9, 0, 128] S1x16x128.size inb_S16x16x256_S1x16x128_9_0_128).toLoadRect X12
  | 10 => View.readAt (Elt F) arg12.view (Rect.unit (s := S16x16x256) ![10, 0, 128] S1x16x128.size inb_S16x16x256_S1x16x128_10_0_128).toLoadRect X12
  | 11 => View.readAt (Elt F) arg12.view (Rect.unit (s := S16x16x256) ![11, 0, 128] S1x16x128.size inb_S16x16x256_S1x16x128_11_0_128).toLoadRect X12
  | 12 => View.readAt (Elt F) arg12.view (Rect.unit (s := S16x16x256) ![12, 0, 128] S1x16x128.size inb_S16x16x256_S1x16x128_12_0_128).toLoadRect X12
  | 13 => View.readAt (Elt F) arg12.view (Rect.unit (s := S16x16x256) ![13, 0, 128] S1x16x128.size inb_S16x16x256_S1x16x128_13_0_128).toLoadRect X12
  | 14 => View.readAt (Elt F) arg12.view (Rect.unit (s := S16x16x256) ![14, 0, 128] S1x16x128.size inb_S16x16x256_S1x16x128_14_0_128).toLoadRect X12
  | _ => View.readAt (Elt F) arg12.view (Rect.unit (s := S16x16x256) ![15, 0, 128] S1x16x128.size inb_S16x16x256_S1x16x128_15_0_128).toLoadRect X12

/-- The block of 128 columns of an array of 7168 that trip `k` of loop 2 loads. -/
def cols2 (arg : Memref sig .tc .vmem S32x7168 .f32) (X : BufTy.Contents (Elt F) arg.view.ty) (k : Fin k0_t2_loop.trips) : Vec F S32x128 .f32 :=
  View.readAt (Elt F) arg.view (Rect.unit (s := S32x7168) (k0_off34 k) S32x128.size (k0_off34_inb k)).toLoadRect X

section
variable (𝒱 : Variants) (c : Dev nD) (bd : Option 𝒱.V) (i : grid0.Coords) (arg1 : Memref sig .tc .vmem S16x32x7168 .fp8e5m2) (harg1 : arg1.IsWhole) (arg2 : Memref sig .tc .vmem S16x32x224 .i8) (harg2 : arg2.IsWhole) (arg3 : Memref sig .tc .vmem S32x7168 .f32) (harg3 : arg3.IsWhole) (arg4 : Memref sig .tc .vmem S32x7168 .f32) (harg4 : arg4.IsWhole) (arg5 : Memref sig .tc .vmem S32x7168 .f32) (harg5 : arg5.IsWhole) (arg6 : Memref sig .tc .vmem S32x7168 .f32) (harg6 : arg6.IsWhole) (arg7 : Memref sig .tc .vmem S32x7168 .f32) (harg7 : arg7.IsWhole) (arg8 : Memref sig .tc .vmem S32x7168 .f32) (harg8 : arg8.IsWhole) (arg9 : Memref sig .tc .vmem S32x7168 .f32) (harg9 : arg9.IsWhole) (arg10 : Memref sig .tc .vmem S32x7168 .fp8e4m3) (harg10 : arg10.IsWhole) (arg11 : Memref sig .tc .vmem S32x224 .i8) (harg11 : arg11.IsWhole) (arg12 : Memref sig .tc .vmem S16x16x256 .i32) (harg12 : arg12.IsWhole) (arg13 : Memref sig .tc .vmem S8x128 .i32) (harg13 : arg13.IsWhole) (v160 : IVec S16x128 32) (c32_i32 : BitVec 32) (v162 v165 : IVec S16x128 32) (v167 : IVec S16x128 1) (X1 : BufTy.Contents (Elt F) arg1.view.ty) (X3 : BufTy.Contents (Elt F) arg3.view.ty) (X4 : BufTy.Contents (Elt F) arg4.view.ty) (X5 : BufTy.Contents (Elt F) arg5.view.ty) (X12 : BufTy.Contents (Elt F) arg12.view.ty) (k : Fin k0_t2_loop.trips)

/-- The mean gradient of trip `k` of loop 2. -/
def grad2 : FVec F S32x128 .f32 :=
  gradTile (groupIdx (k0_pay1 v160 c32_i32 v162 v165 v167) (Scf.iv 0#32 1#32 k)) (words2 arg12 X12) (codes2 arg1 X1 k)

theorem grad2_eq : trip_k0_t2.sl.v495 arg1 arg12 v160 c32_i32 v162 v165 v167 X1 X12 k
    = grad2 arg1 arg12 v160 c32_i32 v162 v165 v167 X1 X12 k := rfl

/-- The new weights of trip `k` of loop 2. -/
def master2 : FVec F S32x128 .f32 :=
  k0_pay27 (grad2 arg1 arg12 v160 c32_i32 v162 v165 v167 X1 X12 k) (cols2 arg3 X3 k) (cols2 arg4 X4 k) (cols2 arg5 X5 k)

/-- Their scale bytes. -/
def bytes2 : IVec S32x128 32 :=
  scaleBytes (k0_pay2 v160 c32_i32 v162 v165 v167)
    (k0_pay28 (grad2 arg1 arg12 v160 c32_i32 v162 v165 v167 X1 X12 k) (cols2 arg3 X3 k) (cols2 arg4 X4 k) (cols2 arg5 X5 k))

theorem bytes2_eq : trip_k0_t2.sl.v746 arg1 arg3 arg4 arg5 arg12 v160 c32_i32 v162 v165 v167 X1 X3 X4 X5 X12 k
    = bytes2 arg1 arg3 arg4 arg5 arg12 v160 c32_i32 v162 v165 v167 X1 X3 X4 X5 X12 k := rfl
end

end Cert.Proof.Tile

end
-- ==== Proof.Trips.lean ====
/-
  The two loops of the idealized kernel: the state before a trip is a stack of tiles, one per trip before, and the
  carried scale bytes.
-/
module

public import proofs.«01_k».proof.Proof.Tile

@[expose] public section

set_option maxRecDepth 16384

noncomputable section

namespace Cert.Proof.Trips

open Cert.KernelIdeal Cert.KernelIdeal.Gen Cert.Proof.Tile
open Idealize.ShloMosaic Idealize.ShloMosaic.TcCoe

variable {F : FTy → Type} [FloatOps F] [Named F]

/-- The values of `f` at the trips before `n`, last first. -/
def stack {α : Type _} {N : ℕ} (f : Fin N → α) : ℕ → List α
  | 0 => []
  | n + 1 => if h : n < N then f ⟨n, h⟩ :: stack f n else stack f n

theorem stack_succ {α : Type _} {N : ℕ} (f : Fin N → α) (k : Fin N) : stack f (k.val + 1) = f k :: stack f k.val := by
  simp [stack, k.isLt]

theorem mem_stack {α : Type _} {N : ℕ} (f : Fin N → α) (x : α) : ∀ n : ℕ, x ∈ stack f n ↔ ∃ k : Fin N, k.val < n ∧ x = f k
  | 0 => by simp [stack]
  | n + 1 => by
    by_cases h : n < N
    · rw [show n + 1 = (⟨n, h⟩ : Fin N).val + 1 from rfl, stack_succ, List.mem_cons, mem_stack f x]
      constructor
      · rintro (rfl | ⟨k, hk, rfl⟩)
        · exact ⟨⟨n, h⟩, Nat.lt_succ_self _, rfl⟩
        · exact ⟨k, Nat.lt_succ_of_lt hk, rfl⟩
      · rintro ⟨k, hk, rfl⟩
        rcases Nat.lt_succ_iff_lt_or_eq.mp hk with hk | hk
        · exact .inr ⟨k, hk, rfl⟩
        · exact .inl (congrArg f (Fin.ext hk))
    · simp only [stack, h, dif_neg, not_false_eq_true]
      rw [mem_stack f x n]
      constructor
      · rintro ⟨k, hk, rfl⟩; exact ⟨k, Nat.lt_succ_of_lt hk, rfl⟩
      · rintro ⟨k, _, rfl⟩; exact ⟨k, by have := k.isLt; omega, rfl⟩

/-- The value carried into trip `n`. -/
def fold {σ : Type _} {N : ℕ} (f : Fin N → σ → σ) (init : σ) : ℕ → σ
  | 0 => init
  | n + 1 => if h : n < N then f ⟨n, h⟩ (fold f init n) else fold f init n

theorem fold_succ {σ : Type _} {N : ℕ} (f : Fin N → σ → σ) (init : σ) (k : Fin N) :
    fold f init (k.val + 1) = f k (fold f init k.val) := by
  simp [fold, k.isLt]

/-- The carried bytes after a tile: the four columns of trip `j` are the bytes of the tile's four groups. -/
def byteAcc (acc : IVec S32x128 32) (j : BitVec 32) (b : IVec S32x128 32) : IVec S32x128 32 :=
  k0_pay4 acc j b (muli trip_k0_t1.sl.v776 trip_k0_t1.sl.v664) 0#32

section
variable (𝒱 : Variants) (c : Dev nD) (bd : Option 𝒱.V) (i : grid0.Coords) (arg1 : Memref sig .tc .vmem S16x32x7168 .fp8e5m2) (harg1 : arg1.IsWhole) (arg2 : Memref sig .tc .vmem S16x32x224 .i8) (harg2 : arg2.IsWhole) (arg3 : Memref sig .tc .vmem S32x7168 .f32) (harg3 : arg3.IsWhole) (arg4 : Memref sig .tc .vmem S32x7168 .f32) (harg4 : arg4.IsWhole) (arg5 : Memref sig .tc .vmem S32x7168 .f32) (harg5 : arg5.IsWhole) (arg6 : Memref sig .tc .vmem S32x7168 .f32) (harg6 : arg6.IsWhole) (arg7 : Memref sig .tc .vmem S32x7168 .f32) (harg7 : arg7.IsWhole) (arg8 : Memref sig .tc .vmem S32x7168 .f32) (harg8 : arg8.IsWhole) (arg9 : Memref sig .tc .vmem S32x7168 .f32) (harg9 : arg9.IsWhole) (arg10 : Memref sig .tc .vmem S32x7168 .fp8e4m3) (harg10 : arg10.IsWhole) (arg11 : Memref sig .tc .vmem S32x224 .i8) (harg11 : arg11.IsWhole) (arg12 : Memref sig .tc .vmem S16x16x256 .i32) (harg12 : arg12.IsWhole) (arg13 : Memref sig .tc .vmem S8x128 .i32) (harg13 : arg13.IsWhole) (v160 : IVec S16x128 32) (c32_i32 : BitVec 32) (v162 v165 : IVec S16x128 32) (v167 : IVec S16x128 1) (X1 : BufTy.Contents (Elt F) arg1.view.ty) (X3 : BufTy.Contents (Elt F) arg3.view.ty) (X4 : BufTy.Contents (Elt F) arg4.view.ty) (X5 : BufTy.Contents (Elt F) arg5.view.ty) (X12 : BufTy.Contents (Elt F) arg12.view.ty)

/-- The carried bytes after trip `k` of loop 1. -/
theorem trip1_carry (k : Fin k0_t1_loop.trips) (acc : IVec S32x128 32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v160 c32_i32 v162 v165 v167 X1 X3 X4 X5 X12 k acc = byteAcc acc (Scf.iv 0#32 1#32 k) (bytes1 arg1 arg3 arg4 arg5 arg12 v160 c32_i32 v162 v165 v167 X1 X3 X4 X5 X12 k) := by
  unfold tripR_k0_t1 trip_k0_t1; rfl

/-- The tiles that trip `k` of loop 1 stores. -/
theorem trip1_tiles (k : Fin k0_t1_loop.trips) (acc : IVec S32x128 32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v160 c32_i32 v162 v165 v167 X1 X3 X4 X5 X12 k acc
      = ([⟨Rect.unit (s := S32x7168) (k0_off17 k) S32x128.size (k0_off17_inb k), master1 arg1 arg3 arg4 arg5 arg12 v160 c32_i32 v162 v165 v167 X1 X3 X4 X5 X12 k⟩], [⟨Rect.unit (s := S32x7168) (k0_off17 k) S32x128.size (k0_off17_inb k), k0_pay24 (grad1 arg1 arg12 v160 c32_i32 v162 v165 v167 X1 X12 k) (cols1 arg4 X4 k)⟩], [⟨Rect.unit (s := S32x7168) (k0_off17 k) S32x128.size (k0_off17_inb k), k0_pay25 (grad1 arg1 arg12 v160 c32_i32 v162 v165 v167 X1 X12 k) (cols1 arg5 X5 k)⟩], [⟨Rect.unit (s := S32x7168) (k0_off17 k) S32x128.size (k0_off17_inb k), k0_pay26 (grad1 arg1 arg12 v160 c32_i32 v162 v165 v167 X1 X12 k) (cols1 arg3 X3 k) (cols1 arg4 X4 k) (cols1 arg5 X5 k)⟩], [⟨Rect.unit (s := S32x7168) (k0_off17 k) S32x128.size (k0_off17_inb k), codeTile (master1 arg1 arg3 arg4 arg5 arg12 v160 c32_i32 v162 v165 v167 X1 X3 X4 X5 X12 k) (bytes1 arg1 arg3 arg4 arg5 arg12 v160 c32_i32 v162 v165 v167 X1 X3 X4 X5 X12 k)⟩]) := by
  unfold tripL_k0_t1 trip_k0_t1; rfl

/-- The state before trip `n` of loop 1. -/
theorem loop1 (init : IVec S32x128 32) : ∀ n, n ≤ k0_t1_loop.trips →
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v160 c32_i32 v162 v165 v167 X1 X3 X4 X5 X12 init n
      = (fold (fun k acc => byteAcc acc (Scf.iv 0#32 1#32 k) (bytes1 arg1 arg3 arg4 arg5 arg12 v160 c32_i32 v162 v165 v167 X1 X3 X4 X5 X12 k)) init n,
        stack (fun k => ⟨Rect.unit (s := S32x7168) (k0_off17 k) S32x128.size (k0_off17_inb k), master1 arg1 arg3 arg4 arg5 arg12 v160 c32_i32 v162 v165 v167 X1 X3 X4 X5 X12 k⟩) n, stack (fun k => ⟨Rect.unit (s := S32x7168) (k0_off17 k) S32x128.size (k0_off17_inb k), k0_pay24 (grad1 arg1 arg12 v160 c32_i32 v162 v165 v167 X1 X12 k) (cols1 arg4 X4 k)⟩) n, stack (fun k => ⟨Rect.unit (s := S32x7168) (k0_off17 k) S32x128.size (k0_off17_inb k), k0_pay25 (grad1 arg1 arg12 v160 c32_i32 v162 v165 v167 X1 X12 k) (cols1 arg5 X5 k)⟩) n, stack (fun k => ⟨Rect.unit (s := S32x7168) (k0_off17 k) S32x128.size (k0_off17_inb k), k0_pay26 (grad1 arg1 arg12 v160 c32_i32 v162 v165 v167 X1 X12 k) (cols1 arg3 X3 k) (cols1 arg4 X4 k) (cols1 arg5 X5 k)⟩) n, stack (fun k => ⟨Rect.unit (s := S32x7168) (k0_off17 k) S32x128.size (k0_off17_inb k), codeTile (master1 arg1 arg3 arg4 arg5 arg12 v160 c32_i32 v162 v165 v167 X1 X3 X4 X5 X12 k) (bytes1 arg1 arg3 arg4 arg5 arg12 v160 c32_i32 v162 v165 v167 X1 X3 X4 X5 X12 k)⟩) n)
  | 0, _ => rfl
  | n + 1, h => by
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 v160 c32_i32 v162 v165 v167 X1 X3 X4 X5 X12 init ⟨n, h⟩
    rw [trip1_carry, trip1_tiles] at e
    refine e.trans ?_
    rw [loop1 init n (Nat.le_of_lt h)]
    simp only [← stack_succ, ← fold_succ, List.singleton_append]
    simp only [stack, fold, show n < k0_t1_loop.trips from h, dif_pos, List.singleton_append, List.cons_append, List.nil_append]
end

section
variable (𝒱 : Variants) (c : Dev nD) (bd : Option 𝒱.V) (i : grid0.Coords) (arg1 : Memref sig .tc .vmem S16x32x7168 .fp8e5m2) (harg1 : arg1.IsWhole) (arg2 : Memref sig .tc .vmem S16x32x224 .i8) (harg2 : arg2.IsWhole) (arg3 : Memref sig .tc .vmem S32x7168 .f32) (harg3 : arg3.IsWhole) (arg4 : Memref sig .tc .vmem S32x7168 .f32) (harg4 : arg4.IsWhole) (arg5 : Memref sig .tc .vmem S32x7168 .f32) (harg5 : arg5.IsWhole) (arg6 : Memref sig .tc .vmem S32x7168 .f32) (harg6 : arg6.IsWhole) (arg7 : Memref sig .tc .vmem S32x7168 .f32) (harg7 : arg7.IsWhole) (arg8 : Memref sig .tc .vmem S32x7168 .f32) (harg8 : arg8.IsWhole) (arg9 : Memref sig .tc .vmem S32x7168 .f32) (harg9 : arg9.IsWhole) (arg10 : Memref sig .tc .vmem S32x7168 .fp8e4m3) (harg10 : arg10.IsWhole) (arg11 : Memref sig .tc .vmem S32x224 .i8) (harg11 : arg11.IsWhole) (arg12 : Memref sig .tc .vmem S16x16x256 .i32) (harg12 : arg12.IsWhole) (arg13 : Memref sig .tc .vmem S8x128 .i32) (harg13 : arg13.IsWhole) (v160 : IVec S16x128 32) (c32_i32 : BitVec 32) (v162 v165 : IVec S16x128 32) (v167 : IVec S16x128 1) (X1 : BufTy.Contents (Elt F) arg1.view.ty) (X3 : BufTy.Contents (Elt F) arg3.view.ty) (X4 : BufTy.Contents (Elt F) arg4.view.ty) (X5 : BufTy.Contents (Elt F) arg5.view.ty) (X12 : BufTy.Contents (Elt F) arg12.view.ty)

/-- The carried bytes after trip `k` of loop 2. -/
theorem trip2_carry (k : Fin k0_t2_loop.trips) (acc : IVec S32x128 32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v160 c32_i32 v162 v165 v167 X1 X3 X4 X5 X12 k acc = byteAcc acc (Scf.iv 0#32 1#32 k) (bytes2 arg1 arg3 arg4 arg5 arg12 v160 c32_i32 v162 v165 v167 X1 X3 X4 X5 X12 k) := by
  unfold tripR_k0_t2 trip_k0_t2; rfl

/-- The tiles that trip `k` of loop 2 stores. -/
theorem trip2_tiles (k : Fin k0_t2_loop.trips) (acc : IVec S32x128 32) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v160 c32_i32 v162 v165 v167 X1 X3 X4 X5 X12 k acc
      = ([⟨Rect.unit (s := S32x7168) (k0_off34 k) S32x128.size (k0_off34_inb k), master2 arg1 arg3 arg4 arg5 arg12 v160 c32_i32 v162 v165 v167 X1 X3 X4 X5 X12 k⟩], [⟨Rect.unit (s := S32x7168) (k0_off34 k) S32x128.size (k0_off34_inb k), k0_pay24 (grad2 arg1 arg12 v160 c32_i32 v162 v165 v167 X1 X12 k) (cols2 arg4 X4 k)⟩], [⟨Rect.unit (s := S32x7168) (k0_off34 k) S32x128.size (k0_off34_inb k), k0_pay25 (grad2 arg1 arg12 v160 c32_i32 v162 v165 v167 X1 X12 k) (cols2 arg5 X5 k)⟩], [⟨Rect.unit (s := S32x7168) (k0_off34 k) S32x128.size (k0_off34_inb k), k0_pay26 (grad2 arg1 arg12 v160 c32_i32 v162 v165 v167 X1 X12 k) (cols2 arg3 X3 k) (cols2 arg4 X4 k) (cols2 arg5 X5 k)⟩], [⟨Rect.unit (s := S32x7168) (k0_off34 k) S32x128.size (k0_off34_inb k), codeTile (master2 arg1 arg3 arg4 arg5 arg12 v160 c32_i32 v162 v165 v167 X1 X3 X4 X5 X12 k) (bytes2 arg1 arg3 arg4 arg5 arg12 v160 c32_i32 v162 v165 v167 X1 X3 X4 X5 X12 k)⟩]) := by
  unfold tripL_k0_t2 trip_k0_t2; rfl

/-- The state before trip `n` of loop 2. -/
theorem loop2 (init : IVec S32x128 32) : ∀ n, n ≤ k0_t2_loop.trips →
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 v160 c32_i32 v162 v165 v167 X1 X3 X4 X5 X12 init n
      = (fold (fun k acc => byteAcc acc (Scf.iv 0#32 1#32 k) (bytes2 arg1 arg3 arg4 arg5 arg12 v160 c32_i32 v162 v165 v167 X1 X3 X4 X5 X12 k)) init n,
        stack (fun k => ⟨Rect.unit (s := S32x7168) (k0_off34 k) S32x128.size (k0_off34_inb k), master2 arg1 arg3 arg4 arg5 arg12 v160 c32_i32 v162 v165 v167 X1 X3 X4 X5 X12 k⟩) n, stack (fun k => ⟨Rect.unit (s := S32x7168) (k0_off34 k) S32x128.size (k0_off34_inb k), k0_pay24 (grad2 arg1 arg12 v160 c32_i32 v162 v165 v167 X1 X12 k) (cols2 arg4 X4 k)⟩) n, stack (fun k => ⟨Rect.unit (s := S32x7168) (k0_off34 k) S32x128.size (k0_off34_inb k), k0_pay25 (grad2 arg1 arg12 v160 c32_i32 v162 v165 v167 X1 X12 k) (cols2 arg5 X5 k)⟩) n, stack (fun k => ⟨Rect.unit (s := S32x7168) (k0_off34 k) S32x128.size (k0_off34_inb k), k0_pay26 (grad2 arg1 arg12 v160 c32_i32 v162 v165 v167 X1 X12 k) (cols2 arg3 X3 k) (cols2 arg4 X4 k) (cols2 arg5 X5 k)⟩) n, stack (fun k => ⟨Rect.unit (s := S32x7168) (k0_off34 k) S32x128.size (k0_off34_inb k), codeTile (master2 arg1 arg3 arg4 arg5 arg12 v160 c32_i32 v162 v165 v167 X1 X3 X4 X5 X12 k) (bytes2 arg1 arg3 arg4 arg5 arg12 v160 c32_i32 v162 v165 v167 X1 X3 X4 X5 X12 k)⟩) n)
  | 0, _ => rfl
  | n + 1, h => by
    have e := st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 v160 c32_i32 v162 v165 v167 X1 X3 X4 X5 X12 init ⟨n, h⟩
    rw [trip2_carry, trip2_tiles] at e
    refine e.trans ?_
    rw [loop2 init n (Nat.le_of_lt h)]
    simp only [← stack_succ, ← fold_succ, List.singleton_append]
    simp only [stack, fold, show n < k0_t2_loop.trips from h, dif_pos, List.singleton_append, List.cons_append, List.nil_append]
end

end Cert.Proof.Trips

end
-- ==== Proof.Halves.lean ====
/-
  Half words: a 32-bit word read as a pair of 16-bit rows, and a pair of 16-bit rows read as a word, at an index.
-/
module

public import Idealize.ShloMosaic.Lib.BitcastPair
public import Idealize.ShloMosaic.Lib.Pipeline.ValueKit

@[expose] public section

namespace Cert.Proof.Halves

open Idealize.ShloMosaic

/-- The 16-bit row `r` is the half `r % 2` of the word at row `r / 2`. -/
theorem half_at {R R' n : ℕ} (x : (⟨2, ![R, n]⟩ : Shape).Idx → BitVec 32) (h : (⟨2, ![R, n]⟩ : Shape).Bitcasts 32 ⟨2, ![R', n]⟩ 16)
    (r : Fin R') (l : Fin n) (hr : r.val / 2 < R) :
    bitcast ⟨2, ![R', n]⟩ 16 x h (ix2 r l) = (x (ix2 (⟨r.val / 2, hr⟩ : Fin R) l)).extractLsb' (16 * (r.val % 2)) 16 := by
  rw [bitcast_32_16]
  have hrow : (⟨2, ![R', n]⟩ : Shape).row (ix2 r l) = r.val := rfl
  simp only [hrow]
  congr 2
  funext a
  apply Fin.ext
  fin_cases a
  · exact Shape.Bitcasts.srcIdx_row h _ _ _ _ rfl
  · exact Shape.Bitcasts.srcIdx_other h _ _ _ _ (by show ¬ 1 + 2 = 2; omega)

/-- The word at row `s` is the pair of the 16-bit rows `2 s` (low) and `2 s + 1` (high). -/
theorem pair_at {R R' n : ℕ} (x : (⟨2, ![R', n]⟩ : Shape).Idx → BitVec 16) (h : (⟨2, ![R', n]⟩ : Shape).Bitcasts 16 ⟨2, ![R, n]⟩ 32)
    (s : Fin R) (l : Fin n) (h1 : 2 * s.val + 1 < R') :
    bitcast ⟨2, ![R, n]⟩ 32 x h (ix2 s l) = x (ix2 (⟨2 * s.val + 1, h1⟩ : Fin R') l) ++ x (ix2 (⟨2 * s.val, by omega⟩ : Fin R') l) := by
  rw [bitcast_16_32]
  congr 2
  · funext a
    apply Fin.ext
    fin_cases a
    · exact Shape.Bitcasts.srcIdx_row h _ _ _ _ rfl
    · exact Shape.Bitcasts.srcIdx_other h _ _ _ _ (by show ¬ 1 + 2 = 2; omega)
  · funext a
    apply Fin.ext
    fin_cases a
    · exact Shape.Bitcasts.srcIdx_row h _ _ _ _ rfl
    · exact Shape.Bitcasts.srcIdx_other h _ _ _ _ (by show ¬ 1 + 2 = 2; omega)

/-- A half of a pair is the row of that parity. -/
theorem half_pair {R R' n : ℕ} (x : (⟨2, ![R', n]⟩ : Shape).Idx → BitVec 16) (h : (⟨2, ![R', n]⟩ : Shape).Bitcasts 16 ⟨2, ![R, n]⟩ 32)
    (r : Fin R') (l : Fin n) (hr : r.val / 2 < R) (hR : R' = 2 * R) :
    (bitcast ⟨2, ![R, n]⟩ 32 x h (ix2 (⟨r.val / 2, hr⟩ : Fin R) l)).extractLsb' (16 * (r.val % 2)) 16 = x (ix2 r l) := by
  rw [pair_at x h _ _ (by show 2 * (r.val / 2) + 1 < R'; omega)]
  rcases Nat.mod_two_eq_zero_or_one r.val with e | e
  · rw [e]
    have : (⟨2 * (r.val / 2), by have := r.isLt; omega⟩ : Fin R') = r := Fin.ext (by show 2 * (r.val / 2) = r.val; omega)
    simp only [this]
    generalize x (ix2 r l) = b
    generalize x _ = a
    apply BitVec.eq_of_getLsbD_eq
    intro i hi
    rw [BitVec.getLsbD_extractLsb', BitVec.getLsbD_append]
    simp [hi]
  · rw [e]
    have : (⟨2 * (r.val / 2) + 1, by have := r.isLt; omega⟩ : Fin R') = r := Fin.ext (by show 2 * (r.val / 2) + 1 = r.val; omega)
    simp only [this]
    generalize x (ix2 r l) = b
    generalize x _ = a
    apply BitVec.eq_of_getLsbD_eq
    intro i hi
    rw [BitVec.getLsbD_extractLsb', BitVec.getLsbD_append]
    simp [hi]

end Cert.Proof.Halves
-- ==== Proof.Pattern.lean ====
/-
  The non-negative single-precision bit patterns as extended reals: the value of a pattern, its monotonicity, and the
  binade that the exponent names.
-/
module

public import proofs.«01_k».proof.Proof.Gen.KernelIdeal.Frame

@[expose] public section

noncomputable section

namespace Cert.Proof.Pattern

open Idealize.ShloMosaic

/-- The value of the pattern `n` as a real number (for an exponent below 255). -/
def val (n : ℕ) : ℝ :=
  if n / 2 ^ 23 = 0 then (n : ℝ) * (2 : ℝ) ^ (-149 : ℤ)
  else ((2 ^ 23 + n % 2 ^ 23 : ℕ) : ℝ) * (2 : ℝ) ^ ((n / 2 ^ 23 : ℕ) - 150 : ℤ)

theorem two_zpow_pos (k : ℤ) : (0 : ℝ) < (2 : ℝ) ^ k := zpow_pos (by norm_num) k

theorem val_nonneg (n : ℕ) : 0 ≤ val n := by
  unfold val
  split
  · exact mul_nonneg (Nat.cast_nonneg _) (two_zpow_pos _).le
  · exact mul_nonneg (Nat.cast_nonneg _) (two_zpow_pos _).le

theorem val_zero : val 0 = 0 := by simp [val]

/-- At the start of a binade. -/
theorem val_binade (e : ℕ) (h : e ≠ 0) : val (e * 2 ^ 23) = (2 : ℝ) ^ ((e : ℤ) - 127) := by
  have h1 : e * 2 ^ 23 / 2 ^ 23 = e := Nat.mul_div_cancel _ (by norm_num)
  have h2 : e * 2 ^ 23 % 2 ^ 23 = 0 := Nat.mul_mod_left _ _
  unfold val
  rw [if_neg (by rw [h1]; exact h), h1, h2]
  have : ((2 ^ 23 + 0 : ℕ) : ℝ) = (2 : ℝ) ^ (23 : ℤ) := by norm_num
  rw [this, ← zpow_add₀ (by norm_num)]
  congr 1; ring

/-- Inside a binade: the value in units of its last place. -/
theorem val_of_exp (n e : ℕ) (he : e ≠ 0) (h : n / 2 ^ 23 = e) :
    val n = (n - ((e : ℝ) - 1) * 2 ^ 23) * (2 : ℝ) ^ ((e : ℤ) - 150) := by
  have h0 := Nat.div_add_mod n (2 ^ 23)
  unfold val
  rw [if_neg (by rw [h]; exact he), h]
  rw [h] at h0
  have h3 : (n : ℝ) = 2 ^ 23 * e + (n % 2 ^ 23 : ℕ) := by exact_mod_cast h0.symm
  push_cast
  push_cast at h3
  rw [h3]; congr 1; ring

theorem val_lt_succ (n : ℕ) : val n < val (n + 1) := by
  by_cases h : (n + 1) / 2 ^ 23 = n / 2 ^ 23
  · by_cases h0 : n / 2 ^ 23 = 0
    · unfold val
      rw [if_pos h0, if_pos (by omega)]
      exact mul_lt_mul_of_pos_right (by push_cast; linarith) (two_zpow_pos _)
    · rw [val_of_exp n _ h0 rfl, val_of_exp (n + 1) _ h0 h]
      exact mul_lt_mul_of_pos_right (by push_cast; linarith) (two_zpow_pos _)
  · have h1 : n + 1 = (n / 2 ^ 23 + 1) * 2 ^ 23 := by omega
    have h2 : val (n + 1) = (2 : ℝ) ^ ((n / 2 ^ 23 + 1 : ℕ) - 127 : ℤ) := by
      rw [h1, val_binade _ (by omega)]
    rw [h2]
    by_cases h0 : n / 2 ^ 23 = 0
    · have hn : n = 2 ^ 23 - 1 := by omega
      subst hn
      unfold val
      rw [if_pos (by norm_num)]
      norm_num
    · rw [val_of_exp n _ h0 rfl]
      have h3 : (n : ℝ) + 1 = ((n / 2 ^ 23 : ℕ) + 1) * 2 ^ 23 := by exact_mod_cast h1
      have h4 : (2 : ℝ) ^ ((n / 2 ^ 23 + 1 : ℕ) - 127 : ℤ) = 2 ^ 24 * (2 : ℝ) ^ ((n / 2 ^ 23 : ℕ) - 150 : ℤ) := by
        rw [← zpow_natCast, ← zpow_add₀ (by norm_num)]; congr 1; push_cast; ring
      rw [h4]
      refine mul_lt_mul_of_pos_right ?_ (two_zpow_pos _)
      have : (n : ℝ) = ((n / 2 ^ 23 : ℕ) + 1) * 2 ^ 23 - 1 := by linarith
      rw [this]; ring_nf; norm_num

theorem val_strictMono : StrictMono val := strictMono_nat_of_lt_succ val_lt_succ

/-- The value of the pattern `n` up to infinity's. -/
def pv (n : ℕ) : EReal := if n < 255 * 2 ^ 23 then ((val n : ℝ) : EReal) else ⊤

theorem pv_mono {a b : ℕ} (h : a ≤ b) : pv a ≤ pv b := by
  unfold pv
  split
  · split
    · exact EReal.coe_le_coe_iff.mpr (val_strictMono.monotone h)
    · exact le_top
  · rw [if_neg (by omega)]

theorem ofBits_eq (c : BitVec 32) (h : c.toNat ≤ 255 * 2 ^ 23) : Ideal.ofBits .f32 c = pv c.toNat := by
  have hex : (c.extractLsb' 23 8).toNat = c.toNat / 2 ^ 23 := by
    rw [BitVec.extractLsb'_toNat, Nat.shiftRight_eq_div_pow]; omega
  have hfr : (c.extractLsb' 0 23).toNat = c.toNat % 2 ^ 23 := by
    rw [BitVec.extractLsb'_toNat, Nat.shiftRight_eq_div_pow]; simp
  have hneg : (c.extractLsb' 31 1 == 1#1) = false := by
    have : (c.extractLsb' 31 1).toNat = 0 := by
      rw [BitVec.extractLsb'_toNat, Nat.shiftRight_eq_div_pow]; omega
    rw [beq_eq_false_iff_ne]; intro h'; rw [h'] at this; exact absurd this (by decide)
  show Ideal.ieee 8 23 c = _
  unfold Ideal.ieee
  simp only [hex, hfr, show (8 + 23 : ℕ) = 31 from rfl, hneg]
  unfold pv val
  by_cases h1 : c.toNat < 255 * 2 ^ 23
  · rw [if_neg (by omega), if_pos h1]
    by_cases h2 : c.toNat / 2 ^ 23 = 0
    · rw [if_pos h2, if_pos h2, show c.toNat % 2 ^ 23 = c.toNat by omega]
      norm_num
    · rw [if_neg h2, if_neg h2]
      norm_num
      congr 2
      ring_nf
  · rw [if_neg h1, if_pos (by omega), if_pos (by omega)]; simp

/-! ## The greedy search for the pattern of a value -/

/-- The first `s` steps of the search on numbers. -/
def search (a : EReal) : ℕ → ℕ
  | 0 => 0
  | s + 1 => if pv (search a s + 2 ^ (30 - s)) ≤ a then search a s + 2 ^ (30 - s) else search a s

theorem search_inv (a : EReal) (h0 : 0 ≤ a) (h1 : a < ⊤) : ∀ s, s ≤ 31 →
    2 ^ (31 - s) ∣ search a s ∧ search a s < 255 * 2 ^ 23 ∧ pv (search a s) ≤ a ∧ a < pv (search a s + 2 ^ (31 - s))
  | 0, _ => by
    refine ⟨by simp [search], by simp [search], ?_, ?_⟩
    · simp [search, pv, val_zero, h0]
    · simpa [search, pv] using h1
  | s + 1, hs => by
    obtain ⟨hd, hl, hle, hlt⟩ := search_inv a h0 h1 s (by omega)
    have hp : (2 : ℕ) ^ (31 - s) = 2 * 2 ^ (30 - s) := by rw [← pow_succ']; congr 1; omega
    have hp' : (2 : ℕ) ^ (31 - (s + 1)) = 2 ^ (30 - s) := by congr 1; omega
    rw [hp] at hd hlt
    rw [hp']
    simp only [search]
    split
    · rename_i hc
      have hlt' : search a s + 2 ^ (30 - s) < 255 * 2 ^ 23 := by
        by_contra hge
        have : pv (search a s + 2 ^ (30 - s)) = ⊤ := by unfold pv; rw [if_neg hge]
        rw [this] at hc; exact absurd h1 (not_lt.mpr hc)
      refine ⟨?_, hlt', hc, ?_⟩
      · exact (Nat.dvd_add_right ((Dvd.intro_left 2 rfl).trans hd)).mpr dvd_rfl
      · rwa [add_assoc, ← two_mul]
    · rename_i hc
      exact ⟨(Dvd.intro_left 2 rfl).trans hd, hl, hle, not_le.mp hc⟩

/-- The pattern of `a`: the greatest whose value is at most `a`. -/
def pat (a : EReal) : ℕ := search a 31

theorem pat_lt (a : EReal) (h0 : 0 ≤ a) (h1 : a < ⊤) : pat a < 255 * 2 ^ 23 := (search_inv a h0 h1 31 le_rfl).2.1
theorem pv_pat_le (a : EReal) (h0 : 0 ≤ a) (h1 : a < ⊤) : pv (pat a) ≤ a := (search_inv a h0 h1 31 le_rfl).2.2.1
theorem lt_pv_pat (a : EReal) (h0 : 0 ≤ a) (h1 : a < ⊤) : a < pv (pat a + 1) := by
  exact (search_inv a h0 h1 31 le_rfl).2.2.2

theorem pat_mono {a b : EReal} (h0 : 0 ≤ a) (h : a ≤ b) (h1 : b < ⊤) : pat a ≤ pat b := by
  by_contra hc
  have h2 := pv_pat_le a h0 (h.trans_lt h1)
  have h3 := lt_pv_pat b (h0.trans h) h1
  have h4 : pv (pat b + 1) ≤ pv (pat a) := pv_mono (by omega)
  exact absurd (h3.trans_le (h4.trans h2)) (not_lt.mpr h)

/-- The exponent of `a`. -/
def expo (a : EReal) : ℕ := pat a / 2 ^ 23

theorem expo_le (a : EReal) (h0 : 0 ≤ a) (h1 : a < ⊤) : expo a ≤ 254 := by
  have := pat_lt a h0 h1; unfold expo; omega

/-- The binade of `a` from below. -/
theorem le_of_expo (r : ℝ) (h0 : 0 ≤ r) (h : expo r ≠ 0) : (2 : ℝ) ^ ((expo r : ℤ) - 127) ≤ r := by
  have h0' : (0 : EReal) ≤ (r : EReal) := by exact_mod_cast h0
  have h2 := pv_pat_le r h0' (EReal.coe_lt_top r)
  have h3 := pat_lt r h0' (EReal.coe_lt_top r)
  have h4 : pv (expo r * 2 ^ 23) ≤ pv (pat r) := pv_mono (by unfold expo; omega)
  have h5 := h4.trans h2
  unfold pv at h5
  rw [if_pos (by unfold expo; omega), val_binade _ h] at h5
  exact_mod_cast h5

/-- The binade of `a` from above. -/
theorem lt_of_expo (r : ℝ) (h0 : 0 ≤ r) (h : expo r ≠ 254) : r < (2 : ℝ) ^ ((expo r : ℤ) - 126) := by
  have h0' : (0 : EReal) ≤ (r : EReal) := by exact_mod_cast h0
  have h2 := lt_pv_pat r h0' (EReal.coe_lt_top r)
  have h3 := expo_le r h0' (EReal.coe_lt_top r)
  have h4 : pv (pat r + 1) ≤ pv ((expo r + 1) * 2 ^ 23) := pv_mono (by unfold expo; omega)
  have h5 := h2.trans_le h4
  unfold pv at h5
  rw [if_pos (by omega), val_binade _ (by omega)] at h5
  have h6 : ((expo r + 1 : ℕ) : ℤ) - 127 = (expo r : ℤ) - 126 := by push_cast; ring
  rw [h6] at h5
  exact_mod_cast h5

/-- Below `2 ^ 127` the exponent is at most 253. -/
theorem expo_le_of_lt (r : ℝ) (h0 : 0 ≤ r) (h : r < (2 : ℝ) ^ (127 : ℤ)) : expo r ≤ 253 := by
  by_contra hc
  have h3 := expo_le r (by exact_mod_cast h0) (EReal.coe_lt_top r)
  have h4 : expo r = 254 := by omega
  have h5 := le_of_expo r h0 (by omega)
  rw [h4] at h5
  norm_num at h5 h
  linarith

/-! ## The same search on words -/

theorem or_eq_add (n j : ℕ) (h : 2 ^ (j + 1) ∣ n) : n ||| 2 ^ j = n + 2 ^ j := by
  obtain ⟨q, rfl⟩ := h
  have := (Nat.two_pow_add_eq_or_of_lt (i := j + 1) (b := 2 ^ j) (Nat.pow_lt_pow_right (by norm_num) (Nat.lt_succ_self j)) q)
  exact this.symm

theorem search_cand (a : EReal) (h0 : 0 ≤ a) (h1 : a < ⊤) (s : ℕ) (hs : s ≤ 30) (n : BitVec 32) (hn : n.toNat = search a s) :
    (n ||| BitVec.ofNat 32 (2 ^ (30 - s))).toNat = search a s + 2 ^ (30 - s) ∧ search a s + 2 ^ (30 - s) ≤ 255 * 2 ^ 23 := by
  obtain ⟨hd, hl, _, _⟩ := search_inv a h0 h1 s (by omega)
  have hb : (2 : ℕ) ^ (30 - s) < 2 ^ 32 := Nat.pow_lt_pow_right (by norm_num) (by omega)
  have hp : 31 - s = 30 - s + 1 := by omega
  rw [hp] at hd
  constructor
  · rw [BitVec.toNat_or, hn, BitVec.toNat_ofNat, Nat.mod_eq_of_lt hb, or_eq_add _ _ hd]
  · obtain ⟨q, hq⟩ := hd
    rw [hq] at hl ⊢
    generalize hj : 30 - s = j at *
    have hj' : j ≤ 30 := by omega
    clear hn hq hs hj hp
    clear hb
    interval_cases j <;> omega

/-- Infinity's and NaN's patterns are never reached, so each step reads the candidate's value. -/
theorem search_step (a : EReal) (h0 : 0 ≤ a) (h1 : a < ⊤) (s : ℕ) (hs : s ≤ 30) (n : BitVec 32) (hn : n.toNat = search a s) :
    (if Ideal.cmp .ole (Ideal.ofBits .f32 (n ||| BitVec.ofNat 32 (2 ^ (30 - s)))) a = 1#1 then n ||| BitVec.ofNat 32 (2 ^ (30 - s)) else n).toNat
      = search a (s + 1) := by
  obtain ⟨hc, hl⟩ := search_cand a h0 h1 s hs n hn
  rw [ofBits_eq _ (by rw [hc]; exact hl), hc]
  simp only [search, Ideal.cmp]
  by_cases h : pv (search a s + 2 ^ (30 - s)) ≤ a
  · simp [h, hc]
  · simp [h, hn]

end Cert.Proof.Pattern

end
-- ==== Proof.Row.lean ====
/-
  What the kernel computes on one row: the mean gradient, the Adam step, the scale bytes and the codes, as functions of
  the row's codes, scale bytes, weights and moments.
-/
module

public import proofs.«01_k».proof.Proof.Pattern

@[expose] public section

noncomputable section

namespace Cert.Proof.Row

open Idealize.ShloMosaic

/-- The data of one row. -/
structure Data where
  codes : Fin 16 → Fin 7168 → EReal
  scales : Fin 16 → Fin 224 → BitVec 8
  master : Fin 7168 → EReal
  m : Fin 7168 → EReal
  v : Fin 7168 → EReal

/-- The column group of a column. -/
def grp (j : Fin 7168) : Fin 224 := ⟨j.val / 32, by omega⟩

/-- Column `i` of group `q`. -/
def col (q : Fin 224) (i : Fin 32) : Fin 7168 := ⟨32 * q.val + i.val, by omega⟩

/-- The 16 bits of a scale: the byte as the exponent of a bf16. -/
def scaleBits (b : BitVec 8) : BitVec 16 := ((b.setWidth 32) <<< 7).setWidth 16

/-- The number that a scale byte names. -/
def kScale (b : BitVec 8) : EReal := Ideal.ofBits .bf16 (scaleBits b)

/-- The reciprocals of the two bias corrections. -/
def invBc1 : EReal := ((100000000000000000000 / 87842334540943071199 : ℝ) : EReal)
def invBc2 : EReal := ((104857600000000000000000000 / 67267626542454041806644399 : ℝ) : EReal)

variable (D : Data)

/-- The mean gradient. -/
def kG (j : Fin 7168) : EReal := (∑ b : Fin 16, D.codes b j * kScale (D.scales b (grp j))) * Ideal.ofBits .f32 0x3D800000#32

/-- The new first moment. -/
def kM (j : Fin 7168) : EReal := Ideal.ofBits .f32 0x3F666666#32 * D.m j + Ideal.ofBits .f32 0x3DCCCCCD#32 * kG D j

/-- The new second moment. -/
def kV (j : Fin 7168) : EReal := Ideal.ofBits .f32 0x3F733333#32 * D.v j + Ideal.ofBits .f32 0x3D4CCCCD#32 * (kG D j * kG D j)

/-- The update. -/
def kU (j : Fin 7168) : EReal :=
  Ideal.ofBits .f32 0x3A83126F#32 * (Ideal.div (kM D j * invBc1) (Ideal.sqrt (kV D j * invBc2) + Ideal.ofBits .f32 0x322BCC77#32)
    + Ideal.ofBits .f32 0x3DCCCCCD#32 * D.master j)

/-- The new weight. -/
def kW (j : Fin 7168) : EReal := D.master j - kU D j

/-- Its absolute value over 448. -/
def kA (j : Fin 7168) : EReal := max (kW D j) (-kW D j) * Ideal.ofBits .f32 0x3B124925#32

/-- The greatest of a group. -/
def kMax (q : Fin 224) : EReal := Finset.univ.sup fun i : Fin 32 => kA D (col q i)

/-- The scale byte of an exponent. -/
def byteOf (e : ℕ) : ℕ := if e = 0 then 127 else e + 1

/-- The scale byte of a group. -/
def kByte (q : Fin 224) : BitVec 32 := BitVec.ofNat 32 (byteOf (Pattern.expo (kMax D q)))

/-- The code of a new weight. -/
def kCode (j : Fin 7168) : EReal :=
  min (Ideal.ofBits .f32 0x43E00000#32) (max (Ideal.ofBits .f32 0xC3E00000#32)
    (kW D j * Ideal.ofBits .f32 ((254#32 - kByte D (grp j)) <<< 23)))

end Cert.Proof.Row

end
-- ==== Proof.TileAt.lean ====
/-
  The functions of a tile at an index, over the extended reals: lanes, groups of 32 lanes, the scales, the mean
  gradient and the carried scale bytes.
-/
module

public import proofs.«01_k».proof.Proof.Trips
public import proofs.«01_k».proof.Proof.Halves
public import proofs.«01_k».proof.Proof.Row
public import Idealize.ShloMosaic.Lib.Pipeline.ValueKit

@[expose] public section

set_option maxRecDepth 16384

noncomputable section

namespace Cert.Proof.TileAt

open Cert.KernelIdeal Cert.KernelIdeal.Gen Cert.Proof.Tile Cert.Proof.Trips Cert.Proof.Halves Cert.Proof.Row
open Idealize.ShloMosaic

/-! ## Lane indices -/

/-- The group of a lane within its tile. -/
def lanes : IVec S16x128 32 :=
  k0_pay1 (iota .tc S16x128 32 [1] iota_S16x128_d1_w32) 32#32 k0_pay88 k0_pay89 k0_pay90

/-- The first lane of a lane's group. -/
def firsts : IVec S16x128 32 :=
  k0_pay2 (iota .tc S16x128 32 [1] iota_S16x128_d1_w32) 32#32 k0_pay88 k0_pay89 k0_pay90

theorem lanes_at (s : Fin 16) (l : Fin 128) : lanes (ix2 s l) = BitVec.ofNat 32 (l.val / 32) := by
  unfold lanes
  pointwise [k0_pay1, k0_pay88, k0_pay89, k0_pay90]
  clear s
  revert l
  decide +kernel

theorem firsts_at (s : Fin 16) (l : Fin 128) : firsts (ix2 s l) = BitVec.ofNat 32 (32 * (l.val / 32)) := by
  have h := lanes_at s l
  unfold lanes at h
  unfold firsts
  pointwise [k0_pay2]
  rw [h]
  clear h s
  revert l
  decide +kernel

theorem groupIdx_at (s : Fin 16) (l : Fin 128) (k : ℕ) (hk : k < 32) :
    groupIdx lanes (Scf.iv 0#32 1#32 k) (ix2 s l) = BitVec.ofNat 32 (4 * k + l.val / 32) := by
  unfold groupIdx
  pointwise
  rw [lanes_at]
  apply BitVec.eq_of_toNat_eq
  have := l.isLt
  simp [Scf.iv, Scalar.muli, IntOp.muli, IntOp.addi, Scalar.addi]
  omega

/-- A lane index below 128 is not wrapped. -/
theorem wrapIdx_at (idx : IVec S16x128 32) (s : Fin 16) (l : Fin 128) (h : (idx (ix2 s l)).toNat < 128) :
    wrapIdx idx (ix2 s l) = idx (ix2 s l) := by
  unfold wrapIdx
  pointwise
  generalize idx (ix2 s l) = b at *
  have : IntOp.cmpi .slt b 0#32 = 0#1 := by
    have e : b.toInt = b.toNat := BitVec.toInt_eq_toNat_of_lt (by omega)
    have : b.slt 0#32 = false := by simp [BitVec.slt, e]
    simp [IntOp.cmpi, this]
  rw [this]; rfl

/-! ## Scales and gradient -/

theorem scaleTile_at (idx : IVec S16x128 32) (w : Vec Ideal S1x16x128 .i32) (r : Fin 32) (l : Fin 128) (q : Fin 128)
    (h : idx (ix2 (⟨r.val / 2, by omega⟩ : Fin 16) l) = BitVec.ofNat 32 q.val) :
    scaleTile (F := Ideal) idx w (ix2 r l)
      = Ideal.ofBits .bf16 ((w (ix3 (0 : Fin 1) (⟨r.val / 2, by omega⟩ : Fin 16) q)).extractLsb' (16 * (r.val % 2)) 16) := by
  unfold scaleTile
  pointwise
  rw [half_at _ _ _ _ (by omega)]
  congr 2
  have hq := q.isLt
  have hw := wrapIdx_at idx (⟨r.val / 2, by omega⟩ : Fin 16) l (by rw [h, BitVec.toNat_ofNat, Nat.mod_eq_of_lt (by omega)]; exact hq)
  rw [h] at hw
  pointwise
  simp only [hw]
  congr 2
  apply Fin.ext
  simp

/-- One rank's gradient at the tile. -/
theorem rankTile_at (idx : IVec S16x128 32) (w : Vec Ideal S1x16x128 .i32) (c : Vec Ideal S1x32x128 .fp8e5m2) (r : Fin 32) (l : Fin 128)
    (q : Fin 128) (h : idx (ix2 (⟨r.val / 2, by omega⟩ : Fin 16) l) = BitVec.ofNat 32 q.val) :
    rankTile (F := Ideal) idx w c (ix2 r l) = c (ix3 (0 : Fin 1) r l)
      * Ideal.ofBits .bf16 ((w (ix3 (0 : Fin 1) (⟨r.val / 2, by omega⟩ : Fin 16) q)).extractLsb' (16 * (r.val % 2)) 16) := by
  have e := scaleTile_at idx w r l q h
  unfold rankTile
  pointwise
  rw [e]

/-- The sum over the first `n` ranks. -/
theorem sumTile_at (idx : IVec S16x128 32) (w : ℕ → Vec Ideal S1x16x128 .i32) (c : ℕ → Vec Ideal S1x32x128 .fp8e5m2) (r : Fin 32)
    (l : Fin 128) (q : Fin 128) (h : idx (ix2 (⟨r.val / 2, by omega⟩ : Fin 16) l) = BitVec.ofNat 32 q.val) : ∀ n : ℕ,
    sumTile (F := Ideal) idx w c n (ix2 r l) = ∑ b ∈ Finset.range n, c b (ix3 (0 : Fin 1) r l)
      * Ideal.ofBits .bf16 ((w b (ix3 (0 : Fin 1) (⟨r.val / 2, by omega⟩ : Fin 16) q)).extractLsb' (16 * (r.val % 2)) 16)
  | 0 => by
    show Ideal.ofBits .f32 0#32 = _
    simp [Ideal.ofBits, Ideal.ieee]
  | n + 1 => by
    have e := sumTile_at idx w c r l q h n
    have e' := rankTile_at idx (w n) (c n) r l q h
    rw [Finset.sum_range_succ, ← e, ← e']
    rfl

/-- The mean gradient. -/
theorem gradTile_at (idx : IVec S16x128 32) (w : ℕ → Vec Ideal S1x16x128 .i32) (c : ℕ → Vec Ideal S1x32x128 .fp8e5m2) (r : Fin 32)
    (l : Fin 128) (q : Fin 128) (h : idx (ix2 (⟨r.val / 2, by omega⟩ : Fin 16) l) = BitVec.ofNat 32 q.val) :
    gradTile (F := Ideal) idx w c (ix2 r l) = (∑ b : Fin 16, c b (ix3 (0 : Fin 1) r l)
      * Ideal.ofBits .bf16 ((w b (ix3 (0 : Fin 1) (⟨r.val / 2, by omega⟩ : Fin 16) q)).extractLsb' (16 * (r.val % 2)) 16))
        * Ideal.ofBits .f32 0x3D800000#32 := by
  rw [← Finset.sum_range fun b => c b (ix3 (0 : Fin 1) r l)
      * Ideal.ofBits .bf16 ((w b (ix3 (0 : Fin 1) (⟨r.val / 2, by omega⟩ : Fin 16) q)).extractLsb' (16 * (r.val % 2)) 16),
    ← sumTile_at idx w c r l q h 16]
  rfl

/-! ## The search -/

theorem searchTile_at (a : FVec Ideal S32x128 .f32) (j : S32x128.Idx) (h0 : 0 ≤ a j) (h1 : a j < ⊤) : ∀ s, s ≤ 31 →
    (searchTile (F := Ideal) a s j).toNat = Pattern.search (a j) s
  | 0, _ => rfl
  | s + 1, hs => Pattern.search_step (a j) h0 h1 s (by omega) _ (searchTile_at a j h0 h1 s (by omega))

/-! ## Half words of patterns -/

/-- Every half of every word of `p` is the number that `f` names. -/
def HasHalves (p : IVec S16x128 32) (f : ℕ → Fin 16 → ℕ → ℕ) : Prop :=
  ∀ h, h < 2 → ∀ (s : Fin 16) (l : Fin 128), ((p (ix2 s l)).extractLsb' (16 * h) 16).toNat = f h s l ∧ f h s l < 2 ^ 15

/-- The packed top halves: the upper half is row `s`, the lower row `16 + s`. -/
theorem packTile_at (n : IVec S32x128 32) (m : Fin 32 → ℕ → ℕ) (hm : ∀ r (l : Fin 128), (n (ix2 r l)).toNat = m r l ∧ m r l < 2 ^ 31) :
    HasHalves (packTile n) fun h s l => m ⟨s.val + 16 * (1 - h), by omega⟩ l / 2 ^ 16 := by
  intro h hh s l
  have h0 := hm ⟨s.val, by omega⟩ l
  have h1 := hm ⟨s.val + 16, by omega⟩ l
  have hs := s.isLt
  have e : packTile n (ix2 s l) = (n (ix2 (⟨s.val, by omega⟩ : Fin 32) l) &&& 4294901760#32)
      ||| (n (ix2 (⟨s.val + 16, by omega⟩ : Fin 32) l) >>> 16) := by
    unfold packTile
    pointwise
    simp only [Nat.add_comm 16 s.val]
    rfl
  rw [e]
  obtain rfl | rfl : h = 0 ∨ h = 1 := by omega
  · simp only [Nat.sub_zero, Nat.mul_one, Nat.mul_zero]
    obtain ⟨e1, l1⟩ := h1
    refine ⟨?_, by omega⟩
    rw [← e1]
    generalize n (ix2 (⟨s.val, by omega⟩ : Fin 32) l) = x
    generalize n (ix2 (⟨s.val + 16, by omega⟩ : Fin 32) l) = y
    have : ((x &&& 4294901760#32) ||| (y >>> 16)).extractLsb' 0 16 = (y >>> 16).extractLsb' 0 16 := by
      apply BitVec.eq_of_getLsbD_eq
      intro i hi
      have h255 : (4294901760#32 : BitVec 32).getLsbD i = false := by interval_cases i <;> rfl
      simp [hi, h255]
    rw [this, BitVec.extractLsb'_toNat]
    simp
    have := y.isLt
    rw [Nat.shiftRight_eq_div_pow]
    omega
  · obtain ⟨e0, l0⟩ := h0
    refine ⟨?_, by simp; omega⟩
    simp only [Nat.sub_self, Nat.mul_zero, Nat.add_zero, Nat.mul_one]
    rw [← e0]
    generalize n (ix2 (⟨s.val, by omega⟩ : Fin 32) l) = x
    generalize n (ix2 (⟨s.val + 16, by omega⟩ : Fin 32) l) = y
    have : ((x &&& 4294901760#32) ||| (y >>> 16)).extractLsb' 16 16 = x.extractLsb' 16 16 := by
      apply BitVec.eq_of_getLsbD_eq
      intro i hi
      have h255 : (4294901760#32 : BitVec 32).getLsbD (16 + i) = true := by interval_cases i <;> rfl
      simp [hi, h255, BitVec.getLsbD_of_ge y (16 + (16 + i)) (by omega)]
    rw [this, BitVec.extractLsb'_toNat, Nat.shiftRight_eq_div_pow]
    have := x.isLt
    omega

theorem maxsi_toNat (x y : BitVec 16) (hx : x.toNat < 2 ^ 15) (hy : y.toNat < 2 ^ 15) : (IntOp.maxsi x y).toNat = max x.toNat y.toNat := by
  have ex : x.toInt = x.toNat := BitVec.toInt_eq_toNat_of_lt (by omega)
  have ey : y.toInt = y.toNat := BitVec.toInt_eq_toNat_of_lt (by omega)
  unfold IntOp.maxsi
  simp only [BitVec.sle, BitVec.slt, ex, ey]
  split <;> rename_i h <;> simp at h <;> omega

/-- The larger of each half and of the one `128 - d` lanes further on. -/
theorem rollMax_at (d : BitVec 32) (hd : d.toNat < 128) (p : IVec S16x128 32) (f : ℕ → Fin 16 → ℕ → ℕ) (hp : HasHalves p f) :
    HasHalves (rollMax d p) fun h s l => max (f h s l) (f h s ((l + 128 - d.toNat) % 128)) := by
  intro h hh s l
  have e0 := hp h hh s l
  have e1 := hp h hh s ⟨(l.val + 128 - d.toNat) % 128, Nat.mod_lt _ (by norm_num)⟩
  have hr : (2 * s.val + h) / 2 = s.val := by omega
  have hr' : (2 * s.val + h) % 2 = h := by omega
  have hs := s.isLt
  have e := half_pair (maxsi (bitcast S32x128 16 p bitcasts_S16x128_w32_S32x128_w16)
    (bitcast S32x128 16 (dynamicRotate 1 d none p rotates_S16x128_d1) bitcasts_S16x128_w32_S32x128_w16))
    bitcasts_S32x128_w16_S16x128_w32 ⟨2 * s.val + h, by omega⟩ l (by show (2 * s.val + h) / 2 < 16; omega) rfl
  have e2 := half_at p bitcasts_S16x128_w32_S32x128_w16 ⟨2 * s.val + h, by omega⟩ l (by show (2 * s.val + h) / 2 < 16; omega)
  have e3 := half_at (dynamicRotate 1 d none p rotates_S16x128_d1) bitcasts_S16x128_w32_S32x128_w16 ⟨2 * s.val + h, by omega⟩ l
    (by show (2 * s.val + h) / 2 < 16; omega)
  have e4 : dynamicRotate 1 d none p rotates_S16x128_d1 (ix2 s l) = p (ix2 s (⟨(l.val + 128 - d.toNat) % 128, Nat.mod_lt _ (by norm_num)⟩ : Fin 128)) := by
    pointwise
    simp only [Nat.mod_eq_of_lt hd]
  simp only [hr, hr', Fin.eta] at e e2 e3
  rw [e4] at e3
  unfold rollMax
  rw [show (bitcast S16x128 32 _ _ (ix2 s l)).extractLsb' (16 * h) 16 = _ from e]
  show (IntOp.maxsi (bitcast S32x128 16 p bitcasts_S16x128_w32_S32x128_w16 _) (bitcast S32x128 16 (dynamicRotate 1 d none p rotates_S16x128_d1) bitcasts_S16x128_w32_S32x128_w16 _)).toNat = _ ∧ _
  rw [e2, e3, maxsi_toNat _ _ (by rw [e0.1]; exact e0.2) (by rw [e1.1]; exact e1.2), e0.1, e1.1]
  exact ⟨rfl, max_lt e0.2 e1.2⟩

/-- `W l` is the greatest of `g` at the lanes `l + i`, `i` in the list, around the tile. -/
def IsMax (O : List ℕ) (g W : ℕ → ℕ) : Prop :=
  ∀ l, l < 128 → (∀ i ∈ O, g ((l + i) % 128) ≤ W l) ∧ ∃ i ∈ O, W l = g ((l + i) % 128)

/-- The function on lanes of one roll. -/
def roll (d : ℕ) (W : ℕ → ℕ) (l : ℕ) : ℕ := max (W l) (W ((l + 128 - d) % 128))

theorem IsMax.roll {O : List ℕ} {g W : ℕ → ℕ} (h : IsMax O g W) (d : ℕ) (hd : d < 128) :
    IsMax (O ++ O.map (· + (128 - d))) g (roll d W) := by
  intro l hl
  have hl' : (l + 128 - d) % 128 < 128 := Nat.mod_lt _ (by norm_num)
  obtain ⟨a1, i1, m1, e1⟩ := h l hl
  obtain ⟨a2, i2, m2, e2⟩ := h _ hl'
  have hm : ∀ i, ((l + 128 - d) % 128 + i) % 128 = (l + (i + (128 - d))) % 128 := fun i => by omega
  constructor
  · intro i hi
    rcases List.mem_append.mp hi with hi | hi
    · exact (a1 i hi).trans (le_max_left _ _)
    · obtain ⟨i, hi', rfl⟩ := List.mem_map.mp hi
      have := a2 i hi'
      rw [hm] at this
      exact this.trans (le_max_right _ _)
  · rcases max_choice (W l) (W ((l + 128 - d) % 128)) with e | e
    · exact ⟨i1, List.mem_append_left _ m1, e.trans e1⟩
    · refine ⟨i2 + (128 - d), List.mem_append_right _ (List.mem_map_of_mem m2), e.trans ?_⟩
      rw [e2, hm]

/-- The function on lanes of the five rolls. -/
def roll5 (g : ℕ → ℕ) : ℕ → ℕ := roll 127 (roll 126 (roll 124 (roll 120 (roll 112 g))))

/-- At the first lane of a group it is the greatest of the group's 32 values. -/
theorem roll5_max (g : ℕ → ℕ) (q : ℕ) (hq : q < 4) :
    (∀ i, i < 32 → g (32 * q + i) ≤ roll5 g (32 * q)) ∧ ∃ i, i < 32 ∧ roll5 g (32 * q) = g (32 * q + i) := by
  have h0 : IsMax [0] g g := fun l hl => by simp [Nat.mod_eq_of_lt hl]
  have h := (((((h0.roll 112 (by norm_num)).roll 120 (by norm_num)).roll 124 (by norm_num)).roll 126 (by norm_num)).roll 127 (by norm_num))
    (32 * q) (by omega)
  obtain ⟨a, i, hi, e⟩ := h
  constructor
  · intro i hi
    have := a i (by revert i; decide)
    rwa [Nat.mod_eq_of_lt (by omega)] at this
  · have hi' : i < 32 := by
      clear a e
      revert i
      decide
    rw [Nat.mod_eq_of_lt (by omega)] at e
    exact ⟨i, hi', e⟩

theorem groupMax_at (p : IVec S16x128 32) (f : ℕ → Fin 16 → ℕ → ℕ) (hp : HasHalves p f) :
    HasHalves (groupMax firsts p) fun h s l => roll5 (f h s) (32 * (l / 32)) := by
  intro h hh s l
  have hr := rollMax_at 127#32 (by decide) _ _ (rollMax_at 126#32 (by decide) _ _ (rollMax_at 124#32 (by decide) _ _
    (rollMax_at 120#32 (by decide) _ _ (rollMax_at 112#32 (by decide) _ _ hp))))
  have hl := l.isLt
  have e := hr h hh s ⟨32 * (l.val / 32), by omega⟩
  have hf := firsts_at s l
  have hw := wrapIdx_at firsts s l (by rw [hf, BitVec.toNat_ofNat]; omega)
  have hg : groupMax firsts p (ix2 s l) = rollMax 127#32 (rollMax 126#32 (rollMax 124#32 (rollMax 120#32 (rollMax 112#32 p))))
      (ix2 s (⟨32 * (l.val / 32), by omega⟩ : Fin 128)) := by
    unfold groupMax
    generalize rollMax 127#32 (rollMax 126#32 (rollMax 124#32 (rollMax 120#32 (rollMax 112#32 p)))) = z
    pointwise
    simp only [hw, hf]
    congr 2
    apply Fin.ext
    simp
    omega
  rw [hg]
  exact e

/-- The scale bytes at an index. -/
theorem byteTile_at (q : IVec S16x128 32) (f : ℕ → Fin 16 → ℕ → ℕ) (hq : HasHalves q f) (r : Fin 32) (l : Fin 128) :
    byteTile q (ix2 r l) = BitVec.ofNat 32 (byteOf (f (1 - r.val / 16) ⟨r.val % 16, by omega⟩ l / 2 ^ 7)) := by
  have hr := r.isLt
  have h1 := hq 1 (by norm_num) ⟨r.val % 16, by omega⟩ l
  have h0 := hq 0 (by norm_num) ⟨r.val % 16, by omega⟩ l
  unfold byteTile
  pointwise
  generalize hE : f (1 - r.val / 16) ⟨r.val % 16, by omega⟩ l / 2 ^ 7 = E
  have he : (if h : r.val < 16 then IntOp.shrui ArithUnit.vector (q (ix2 (⟨r.val, h⟩ : Fin 16) l)) 23#32
        else IntOp.andi (IntOp.shrui ArithUnit.vector (q (ix2 (⟨r.val - 16, by omega⟩ : Fin 16) l)) 7#32) 255#32) = BitVec.ofNat 32 E ∧ E < 256 := by
    rw [← hE]
    split
    · rename_i hlt
      have e1 : r.val % 16 = r.val := Nat.mod_eq_of_lt hlt
      have e2 : 1 - r.val / 16 = 1 := by omega
      simp only [e1, e2] at h1 ⊢
      obtain ⟨e, lt⟩ := h1
      rw [BitVec.extractLsb'_toNat, Nat.shiftRight_eq_div_pow] at e
      refine ⟨?_, by omega⟩
      apply BitVec.eq_of_toNat_eq
      have := (q (ix2 (⟨r.val, hlt⟩ : Fin 16) l)).isLt
      show (q (ix2 (⟨r.val, hlt⟩ : Fin 16) l) >>> 23).toNat = _
      rw [BitVec.toNat_ushiftRight, Nat.shiftRight_eq_div_pow, BitVec.toNat_ofNat]
      omega
    · rename_i hlt
      have e1 : r.val % 16 = r.val - 16 := by omega
      have e2 : 1 - r.val / 16 = 0 := by omega
      simp only [e1, e2] at h0 ⊢
      obtain ⟨e, lt⟩ := h0
      rw [BitVec.extractLsb'_toNat, Nat.shiftRight_eq_div_pow] at e
      refine ⟨?_, by omega⟩
      apply BitVec.eq_of_toNat_eq
      have := (q (ix2 (⟨r.val - 16, by omega⟩ : Fin 16) l)).isLt
      show ((q (ix2 (⟨r.val - 16, by omega⟩ : Fin 16) l) >>> 7) &&& 255#32).toNat = _
      rw [BitVec.toNat_and, BitVec.toNat_ushiftRight, Nat.shiftRight_eq_div_pow,
        show (255#32 : BitVec 32).toNat = 2 ^ 8 - 1 from rfl, Nat.and_two_pow_sub_one_eq_mod, BitVec.toNat_ofNat]
      omega
  rw [he.1]
  have hlt := he.2
  clear he hE
  unfold byteOf
  by_cases h : E = 0
  · subst h; rfl
  · have : BitVec.ofNat 32 E ≠ 0#32 := by
      intro h'
      have := congrArg BitVec.toNat h'
      simp at this
      omega
    rw [if_neg h]
    have hc : IntOp.cmpi .eq (BitVec.ofNat 32 E) 0#32 = 0#1 := by
      simp only [IntOp.cmpi, beq_eq_false_iff_ne.mpr this]; rfl
    rw [hc]
    apply BitVec.eq_of_toNat_eq
    simp [Scalar.select, IntOp.addi]

/-- The scale byte of a group whose greatest value is `M`. -/
theorem scaleBytes_at (a : FVec Ideal S32x128 .f32) (h : ∀ j, 0 ≤ a j ∧ a j < ⊤) (r : Fin 32) (l : Fin 128) (M : EReal)
    (hle : ∀ i : Fin 32, a (ix2 r (⟨32 * (l.val / 32) + i.val, by omega⟩ : Fin 128)) ≤ M)
    (hex : ∃ i : Fin 32, a (ix2 r (⟨32 * (l.val / 32) + i.val, by omega⟩ : Fin 128)) = M) :
    scaleBytes (F := Ideal) firsts a (ix2 r l) = BitVec.ofNat 32 (byteOf (Pattern.expo M)) := by
  have hl := l.isLt
  have hr := r.isLt
  let m : Fin 32 → ℕ → ℕ := fun r l => if h : l < 128 then Pattern.pat (a (ix2 r (⟨l, h⟩ : Fin 128))) else 0
  have hs : ∀ r (l : Fin 128), (searchTile (F := Ideal) a 31 (ix2 r l)).toNat = m r l ∧ m r l < 2 ^ 31 := by
    intro r l
    have e := searchTile_at a (ix2 r l) (h _).1 (h _).2 31 le_rfl
    have e' := Pattern.pat_lt (a (ix2 r l)) (h _).1 (h _).2
    have em : m r l = Pattern.pat (a (ix2 r l)) := by simp [m]
    rw [em]
    exact ⟨e, by omega⟩
  have hb := byteTile_at _ _ (groupMax_at _ _ (packTile_at _ m hs)) r l
  unfold scaleBytes
  rw [hb]
  have er : (⟨r.val % 16 + 16 * (1 - (1 - r.val / 16)), by omega⟩ : Fin 32) = r := Fin.ext (by
    show r.val % 16 + 16 * (1 - (1 - r.val / 16)) = r.val
    omega)
  simp only [er]
  obtain ⟨hmax, i, hi, e⟩ := roll5_max (fun l => m r l / 2 ^ 16) (l.val / 32) (by omega)
  rw [e]
  have e1 : m r (32 * (l.val / 32) + i) = Pattern.pat (a (ix2 r (⟨32 * (l.val / 32) + i, by omega⟩ : Fin 128))) := by
    simp only [m]
    rw [dif_pos]
  obtain ⟨i', hi'⟩ := hex
  have e2 : m r (32 * (l.val / 32) + i'.val) = Pattern.pat M := by
    simp only [m]
    rw [dif_pos (by omega), hi']
  have h3 := hmax i'.val i'.isLt
  rw [e] at h3
  simp only [e2, e1] at h3
  have hM : M < ⊤ := by rw [← hi']; exact (h _).2
  have h4 := Pattern.pat_mono (h _).1 (hle ⟨i, hi⟩) hM
  have h5 : Pattern.pat (a (ix2 r (⟨32 * (l.val / 32) + i, by omega⟩ : Fin 128))) / 2 ^ 16 = Pattern.pat M / 2 ^ 16 := by
    apply le_antisymm _ h3
    exact Nat.div_le_div_right h4
  show BitVec.ofNat 32 (byteOf (m r (32 * (l.val / 32) + i) / 2 ^ 16 / 2 ^ 7)) = _
  rw [e1, h5, Nat.div_div_eq_div_mul]
  rfl

/-! ## The carried bytes -/

theorem pos_at (r : Fin 32) (l : Fin 128) : muli trip_k0_t1.sl.v776 trip_k0_t1.sl.v664 (ix2 r l) = BitVec.ofNat 32 (32 * (l.val % 4)) := by
  sl_unfold_words
  pointwise
  clear r
  revert l
  decide +kernel

theorem byteAcc_at (acc : IVec S32x128 32) (k : ℕ) (hk : k < 32) (b : IVec S32x128 32) (r : Fin 32) (l : Fin 128) :
    byteAcc acc (Scf.iv 0#32 1#32 k) b (ix2 r l)
      = if l.val / 4 = k then b (ix2 r (⟨32 * (l.val % 4), by omega⟩ : Fin 128)) else acc (ix2 r l) := by
  have hp := pos_at r l
  unfold byteAcc
  generalize muli trip_k0_t1.sl.v776 trip_k0_t1.sl.v664 = pos at *
  pointwise [k0_pay4]
  have hlane : (Scalar.select (IntOp.cmpi .slt (pos (ix2 r l)) 0#32) (IntOp.addi (pos (ix2 r l)) 128#32) (pos (ix2 r l))).toNat % 128
      = 32 * (l.val % 4) := by
    rw [hp]
    clear hp
    revert l
    decide +kernel
  have hgroup : (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (BitVec.ofNat 32 l.val) 4#32) 0#32))
          (IntOp.subi (IntOp.divsi ArithUnit.vector (BitVec.ofNat 32 l.val) 4#32) 1#32)
          (IntOp.divsi ArithUnit.vector (BitVec.ofNat 32 l.val) 4#32)) = BitVec.ofNat 32 (l.val / 4) := by
    clear hlane hp
    revert l
    decide +kernel
  have hiv : Scf.iv 0#32 1#32 k = BitVec.ofNat 32 k := by simp [Scf.iv]
  have hl := l.isLt
  simp only [hlane, hgroup, hiv]
  by_cases h : l.val / 4 = k
  · rw [if_pos h, h]
    simp [IntOp.cmpi, Scalar.select]
  · have hne : BitVec.ofNat 32 (l.val / 4) ≠ BitVec.ofNat 32 k := by
      intro h'
      have := congrArg BitVec.toNat h'
      simp at this
      omega
    rw [if_neg h]
    simp only [IntOp.cmpi, beq_eq_false_iff_ne.mpr hne]
    rfl

/-- After `n` tiles the first `4 n` lanes hold the bytes of their groups. -/
theorem fold_at {N : ℕ} (hN : N ≤ 32) (b : Fin N → IVec S32x128 32) (init : IVec S32x128 32) (r : Fin 32) (l : Fin 128) : ∀ n, n ≤ N →
    ∀ h : l.val / 4 < n, ∀ h' : l.val / 4 < N,
    fold (fun k acc => byteAcc acc (Scf.iv 0#32 1#32 k) (b k)) init n (ix2 r l)
      = b ⟨l.val / 4, h'⟩ (ix2 r (⟨32 * (l.val % 4), by omega⟩ : Fin 128))
  | n + 1, hn, h, h' => by
    rw [show n + 1 = (⟨n, hn⟩ : Fin N).val + 1 from rfl, fold_succ, byteAcc_at _ _ (by show n < 32; omega)]
    by_cases e : l.val / 4 = n
    · subst e
      rw [if_pos rfl]
    · rw [if_neg e]
      exact fold_at hN b init r l n (by omega) (by omega) h'

end Cert.Proof.TileAt

end
-- ==== Proof.Columns.lean ====
/-
  The tiles of the two loops at an index: what a trip computes at row `r` and lane `l` is what the row functions say at
  the tile's column.
-/
module

public import proofs.«01_k».proof.Proof.TileAt

@[expose] public section

set_option maxRecDepth 16384

noncomputable section

namespace Cert.Proof.Columns

open Cert.KernelIdeal Cert.KernelIdeal.Gen Cert.Proof.Tile Cert.Proof.Trips Cert.Proof.TileAt Cert.Proof.Row
open Idealize.ShloMosaic

/-- The data of row `r` of the five input blocks. -/
def rowOf {R : ℕ} (x1 : (⟨3, ![16, R, 7168]⟩ : Shape).Idx → EReal) (x2 : (⟨3, ![16, R, 224]⟩ : Shape).Idx → BitVec 8)
    (x3 x4 x5 : (⟨2, ![R, 7168]⟩ : Shape).Idx → EReal) (r : Fin R) : Data where
  codes b j := x1 (ix3 b r j)
  scales b q := x2 (ix3 b r q)
  master j := x3 (ix2 r j)
  m j := x4 (ix2 r j)
  v j := x5 (ix2 r j)

/-- The scratch holds the bf16 scales of rows `2 s` and `2 s + 1` in the word at `s`. -/
def HasScales (w : S16x16x256.Idx → BitVec 32) (x2 : S16x32x224.Idx → BitVec 8) : Prop :=
  ∀ (b : Fin 16) (r : Fin 32) (q : Fin 224), (w (ix3 b (⟨r.val / 2, by omega⟩ : Fin 16) (⟨q.val, by omega⟩ : Fin 256))).extractLsb' (16 * (r.val % 2)) 16
    = scaleBits (x2 (ix3 b r q))

variable (arg1 : Memref sig .tc .vmem S16x32x7168 .fp8e5m2) (arg3 arg4 arg5 : Memref sig .tc .vmem S32x7168 .f32) (arg12 : Memref sig .tc .vmem S16x16x256 .i32)
  (X1 : BufTy.Contents (Elt Ideal) arg1.view.ty) (x2 : S16x32x224.Idx → BitVec 8) (X3 : BufTy.Contents (Elt Ideal) arg3.view.ty) (X4 : BufTy.Contents (Elt Ideal) arg4.view.ty) (X5 : BufTy.Contents (Elt Ideal) arg5.view.ty) (X12 : BufTy.Contents (Elt Ideal) arg12.view.ty)

/-- The data of row `r` of the blocks behind the five input references. -/
def rowAt (r : Fin 32) : Data :=
  rowOf (R := 32) (arg1.view.read (Elt Ideal) X1) x2 (arg3.view.read (Elt Ideal) X3) (arg4.view.read (Elt Ideal) X4) (arg5.view.read (Elt Ideal) X5) r
theorem load_codes (off : Fin 3 → ℕ) (inb) (b c : ℕ) (h : off = ![b, 0, c]) (r : Fin 32) (l : Fin 128) (hb : b < 16) (hc : c + l.val < 7168) :
    View.readAt (Elt Ideal) arg1.view (Rect.unit (s := S16x32x7168) off S1x32x128.size inb).toLoadRect X1 (ix3 (0 : Fin 1) r l)
      = arg1.view.read (Elt Ideal) X1 (ix3 (⟨b, hb⟩ : Fin 16) r (⟨c + l.val, hc⟩ : Fin 7168)) := by
  subst h
  refine View.ld_unit_apply_of _ _ _ _ _ _ fun a => ?_
  fin_cases a
  · rfl
  · exact (Nat.zero_add _).symm
  · rfl

theorem load_words (off : Fin 3 → ℕ) (inb) (b c : ℕ) (h : off = ![b, 0, c]) (s : Fin 16) (l : Fin 128) (hb : b < 16) (hc : c + l.val < 256) :
    View.readAt (Elt Ideal) arg12.view (Rect.unit (s := S16x16x256) off S1x16x128.size inb).toLoadRect X12 (ix3 (0 : Fin 1) s l)
      = arg12.view.read (Elt Ideal) X12 (ix3 (⟨b, hb⟩ : Fin 16) s (⟨c + l.val, hc⟩ : Fin 256)) := by
  subst h
  refine View.ld_unit_apply_of _ _ _ _ _ _ fun a => ?_
  fin_cases a
  · rfl
  · exact (Nat.zero_add _).symm
  · rfl

theorem load_cols (arg : Memref sig .tc .vmem S32x7168 .f32) (X : BufTy.Contents (Elt Ideal) arg.view.ty) (off : Fin 2 → ℕ) (inb) (c : ℕ)
    (h : off = ![0, c]) (r : Fin 32) (l : Fin 128) (hc : c + l.val < 7168) :
    View.readAt (Elt Ideal) arg.view (Rect.unit (s := S32x7168) off S32x128.size inb).toLoadRect X (ix2 r l)
      = arg.view.read (Elt Ideal) X (ix2 r (⟨c + l.val, hc⟩ : Fin 7168)) := by
  subst h
  refine View.ld_unit_apply_of _ _ _ _ _ _ fun a => ?_
  fin_cases a
  · exact (Nat.zero_add _).symm
  · rfl

/-! ## The Adam step at an index -/

section
variable (D : Data) (g p m v x : FVec Ideal S32x128 .f32) (b : IVec S32x128 32) (i : S32x128.Idx) (j : Fin 7168)

theorem adam_m (hg : g i = kG D j) (hm : m i = D.m j) : k0_pay24 (F := Ideal) g m i = kM D j := by
  pointwise [k0_pay24]; rw [hg, hm]; rfl

theorem adam_v (hg : g i = kG D j) (hv : v i = D.v j) : k0_pay25 (F := Ideal) g v i = kV D j := by
  pointwise [k0_pay25]; rw [hg, hv]; rfl

theorem adam_u (hg : g i = kG D j) (hp : p i = D.master j) (hm : m i = D.m j) (hv : v i = D.v j) :
    k0_pay26 (F := Ideal) g p m v i = kU D j := by
  have e1 : Named.named (F := Ideal) κ (φ := .f32) "inv_bc1" 0x3F91B733#32 = invBc1 := IdealRules.named_const.ideal_named_scalar _ _ _ _ rfl
  have e2 : Named.named (F := Ideal) κ (φ := .f32) "inv_bc2" 0x3FC78729#32 = invBc2 := IdealRules.named_const.ideal_named_scalar _ _ _ _ rfl
  have em := adam_m D g m i j hg hm
  have ev := adam_v D g v i j hg hv
  unfold k0_pay26
  generalize k0_pay24 (F := Ideal) g m = M at *
  generalize k0_pay25 (F := Ideal) g v = V at *
  rw [e1, e2]
  pointwise
  rw [em, ev, hp]; rfl

theorem adam_w (hu : k0_pay26 (F := Ideal) g p m v i = kU D j) (hp : p i = D.master j) : k0_pay27 (F := Ideal) g p m v i = kW D j := by
  unfold k0_pay27
  generalize k0_pay26 (F := Ideal) g p m v = U at *
  pointwise
  rw [hu, hp]; rfl

theorem adam_a (hw : k0_pay27 (F := Ideal) g p m v i = kW D j) : k0_pay28 (F := Ideal) g p m v i = kA D j := by
  unfold k0_pay28
  generalize k0_pay27 (F := Ideal) g p m v = W at *
  pointwise
  rw [hw]; rfl

theorem codeTile_at (hx : x i = kW D j) (hb : b i = kByte D (grp j)) : codeTile (F := Ideal) x b i = kCode D j := by
  unfold codeTile
  pointwise
  rw [hx, hb]; rfl
end

theorem le_kMax (D : Data) (q : Fin 224) (i : Fin 32) : kA D (col q i) ≤ kMax D q :=
  Finset.le_sup (f := fun i : Fin 32 => kA D (col q i)) (Finset.mem_univ i)

theorem kMax_mem (D : Data) (q : Fin 224) : ∃ i : Fin 32, kA D (col q i) = kMax D q := by
  obtain ⟨i, _, e⟩ := Finset.exists_mem_eq_sup Finset.univ ⟨(0 : Fin 32), Finset.mem_univ _⟩ (fun i : Fin 32 => kA D (col q i))
  exact ⟨i, e.symm⟩

/-! ## Loop 1 -/

theorem trips1 : k0_t1_loop.trips = 32 := by decide +kernel

/-- The column of lane `l` in trip `k`. -/
def col1 (k : Fin k0_t1_loop.trips) (l : Fin 128) : Fin 7168 := ⟨128 * k.val + 0 + l.val, by have := k.isLt; have := trips1; omega⟩

theorem codes1_at (k : Fin k0_t1_loop.trips) (b : Fin 16) (r : Fin 32) (l : Fin 128) :
    codes1 arg1 X1 k b.val (ix3 (0 : Fin 1) r l) = arg1.view.read (Elt Ideal) X1 (ix3 b r (col1 k l)) := by
  obtain ⟨b, hb⟩ := b
  interval_cases b
  · exact load_codes arg1 X1 _ _ 0 _ (k0_off1_eq k) r l (by norm_num) _
  · exact load_codes arg1 X1 _ _ 1 _ (k0_off2_eq k) r l (by norm_num) _
  · exact load_codes arg1 X1 _ _ 2 _ (k0_off3_eq k) r l (by norm_num) _
  · exact load_codes arg1 X1 _ _ 3 _ (k0_off4_eq k) r l (by norm_num) _
  · exact load_codes arg1 X1 _ _ 4 _ (k0_off5_eq k) r l (by norm_num) _
  · exact load_codes arg1 X1 _ _ 5 _ (k0_off6_eq k) r l (by norm_num) _
  · exact load_codes arg1 X1 _ _ 6 _ (k0_off7_eq k) r l (by norm_num) _
  · exact load_codes arg1 X1 _ _ 7 _ (k0_off8_eq k) r l (by norm_num) _
  · exact load_codes arg1 X1 _ _ 8 _ (k0_off9_eq k) r l (by norm_num) _
  · exact load_codes arg1 X1 _ _ 9 _ (k0_off10_eq k) r l (by norm_num) _
  · exact load_codes arg1 X1 _ _ 10 _ (k0_off11_eq k) r l (by norm_num) _
  · exact load_codes arg1 X1 _ _ 11 _ (k0_off12_eq k) r l (by norm_num) _
  · exact load_codes arg1 X1 _ _ 12 _ (k0_off13_eq k) r l (by norm_num) _
  · exact load_codes arg1 X1 _ _ 13 _ (k0_off14_eq k) r l (by norm_num) _
  · exact load_codes arg1 X1 _ _ 14 _ (k0_off15_eq k) r l (by norm_num) _
  · exact load_codes arg1 X1 _ _ 15 _ (k0_off16_eq k) r l (by norm_num) _

theorem words1_at (b : Fin 16) (s : Fin 16) (q : Fin 128) :
    words1 arg12 X12 b.val (ix3 (0 : Fin 1) s q) = arg12.view.read (Elt Ideal) X12 (ix3 b s (⟨0 + q.val, by omega⟩ : Fin 256)) := by
  obtain ⟨b, hb⟩ := b
  interval_cases b <;> exact load_words arg12 X12 _ _ _ _ rfl s q _ _

theorem cols1_at (arg : Memref sig .tc .vmem S32x7168 .f32) (X : BufTy.Contents (Elt Ideal) arg.view.ty) (k : Fin k0_t1_loop.trips) (r : Fin 32) (l : Fin 128) :
    cols1 arg X k (ix2 r l) = arg.view.read (Elt Ideal) X (ix2 r (col1 k l)) :=
  load_cols arg X _ _ _ (k0_off17_eq k) r l _

/-- The mean gradient of a tile. -/
theorem grad1_at (hS : HasScales (arg12.view.read (Elt Ideal) X12) x2) (k : Fin k0_t1_loop.trips) (r : Fin 32) (l : Fin 128) :
    grad1 (F := Ideal) arg1 arg12 (iota .tc S16x128 32 [1] iota_S16x128_d1_w32) 32#32 k0_pay88 k0_pay89 k0_pay90 X1 X12 k (ix2 r l) = kG (rowAt arg1 arg3 arg4 arg5 X1 x2 X3 X4 X5 r) (col1 k l) := by
  have hk := k.isLt
  have ht := trips1
  have hl := l.isLt
  unfold grad1
  refine (gradTile_at _ _ _ r l ⟨4 * k.val + l.val / 32, by omega⟩ (groupIdx_at _ l k.val (by omega))).trans ?_
  unfold kG
  congr 1
  refine Finset.sum_congr rfl fun b _ => ?_
  have h := hS b r (grp (col1 k l))
  rw [codes1_at, words1_at]
  refine congrArg₂ (· * ·) rfl ?_
  unfold kScale rowAt rowOf
  refine congrArg (Ideal.ofBits .bf16) (Eq.trans ?_ h)
  congr 4
  show 0 + (4 * k.val + l.val / 32) = (128 * k.val + 0 + l.val) / 32
  omega

theorem m1_at (hS : HasScales (arg12.view.read (Elt Ideal) X12) x2) (k : Fin k0_t1_loop.trips) (r : Fin 32) (l : Fin 128) :
    k0_pay24 (F := Ideal) (grad1 arg1 arg12 (iota .tc S16x128 32 [1] iota_S16x128_d1_w32) 32#32 k0_pay88 k0_pay89 k0_pay90 X1 X12 k) (cols1 arg4 X4 k) (ix2 r l) = kM (rowAt arg1 arg3 arg4 arg5 X1 x2 X3 X4 X5 r) (col1 k l) := by
  have hg := grad1_at arg1 arg3 arg4 arg5 arg12 X1 x2 X3 X4 X5 X12 hS k r l
  exact adam_m _ _ _ _ _ hg (cols1_at arg4 X4 k r l)

theorem v1_at (hS : HasScales (arg12.view.read (Elt Ideal) X12) x2) (k : Fin k0_t1_loop.trips) (r : Fin 32) (l : Fin 128) :
    k0_pay25 (F := Ideal) (grad1 arg1 arg12 (iota .tc S16x128 32 [1] iota_S16x128_d1_w32) 32#32 k0_pay88 k0_pay89 k0_pay90 X1 X12 k) (cols1 arg5 X5 k) (ix2 r l) = kV (rowAt arg1 arg3 arg4 arg5 X1 x2 X3 X4 X5 r) (col1 k l) := by
  have hg := grad1_at arg1 arg3 arg4 arg5 arg12 X1 x2 X3 X4 X5 X12 hS k r l
  exact adam_v _ _ _ _ _ hg (cols1_at arg5 X5 k r l)

theorem u1_at (hS : HasScales (arg12.view.read (Elt Ideal) X12) x2) (k : Fin k0_t1_loop.trips) (r : Fin 32) (l : Fin 128) :
    k0_pay26 (F := Ideal) (grad1 arg1 arg12 (iota .tc S16x128 32 [1] iota_S16x128_d1_w32) 32#32 k0_pay88 k0_pay89 k0_pay90 X1 X12 k) (cols1 arg3 X3 k) (cols1 arg4 X4 k) (cols1 arg5 X5 k) (ix2 r l)
      = kU (rowAt arg1 arg3 arg4 arg5 X1 x2 X3 X4 X5 r) (col1 k l) := by
  have hg := grad1_at arg1 arg3 arg4 arg5 arg12 X1 x2 X3 X4 X5 X12 hS k r l
  exact adam_u _ _ _ _ _ _ _ hg (cols1_at arg3 X3 k r l) (cols1_at arg4 X4 k r l) (cols1_at arg5 X5 k r l)

theorem master1_at (hS : HasScales (arg12.view.read (Elt Ideal) X12) x2) (k : Fin k0_t1_loop.trips) (r : Fin 32) (l : Fin 128) :
    master1 (F := Ideal) arg1 arg3 arg4 arg5 arg12 (iota .tc S16x128 32 [1] iota_S16x128_d1_w32) 32#32 k0_pay88 k0_pay89 k0_pay90 X1 X3 X4 X5 X12 k (ix2 r l) = kW (rowAt arg1 arg3 arg4 arg5 X1 x2 X3 X4 X5 r) (col1 k l) := by
  have hu := u1_at arg1 arg3 arg4 arg5 arg12 X1 x2 X3 X4 X5 X12 hS k r l
  exact adam_w _ _ _ _ _ _ _ hu (cols1_at arg3 X3 k r l)

theorem a1_at (hS : HasScales (arg12.view.read (Elt Ideal) X12) x2) (k : Fin k0_t1_loop.trips) (r : Fin 32) (l : Fin 128) :
    k0_pay28 (F := Ideal) (grad1 arg1 arg12 (iota .tc S16x128 32 [1] iota_S16x128_d1_w32) 32#32 k0_pay88 k0_pay89 k0_pay90 X1 X12 k) (cols1 arg3 X3 k) (cols1 arg4 X4 k) (cols1 arg5 X5 k) (ix2 r l)
      = kA (rowAt arg1 arg3 arg4 arg5 X1 x2 X3 X4 X5 r) (col1 k l) := by
  have hw := master1_at arg1 arg3 arg4 arg5 arg12 X1 x2 X3 X4 X5 X12 hS k r l
  exact adam_a _ _ _ _ _ _ _ hw

/-- Every new weight is small enough for its pattern to be found. -/
theorem bytes1_at (hS : HasScales (arg12.view.read (Elt Ideal) X12) x2)
    (hA : ∀ r j, 0 ≤ kA (rowAt arg1 arg3 arg4 arg5 X1 x2 X3 X4 X5 r) j ∧ kA (rowAt arg1 arg3 arg4 arg5 X1 x2 X3 X4 X5 r) j < ⊤)
    (k : Fin k0_t1_loop.trips) (r : Fin 32) (l : Fin 128) :
    bytes1 (F := Ideal) arg1 arg3 arg4 arg5 arg12 (iota .tc S16x128 32 [1] iota_S16x128_d1_w32) 32#32 k0_pay88 k0_pay89 k0_pay90 X1 X3 X4 X5 X12 k (ix2 r l)
      = kByte (rowAt arg1 arg3 arg4 arg5 X1 x2 X3 X4 X5 r) (grp (col1 k l)) := by
  have ha := a1_at arg1 arg3 arg4 arg5 arg12 X1 x2 X3 X4 X5 X12 hS k
  have hl := l.isLt
  have hc : ∀ i : Fin 32, col1 k (⟨32 * (l.val / 32) + i.val, by omega⟩ : Fin 128) = col (grp (col1 k l)) i := fun i => Fin.ext (by
    show 128 * k.val + 0 + (32 * (l.val / 32) + i.val) = 32 * ((128 * k.val + 0 + l.val) / 32) + i.val
    omega)
  unfold bytes1
  refine scaleBytes_at _ (fun j => ?_) r l (kMax (rowAt arg1 arg3 arg4 arg5 X1 x2 X3 X4 X5 r) (grp (col1 k l))) (fun i => ?_) ?_
  · idx_vars j
    rw [ha]
    exact hA _ _
  · rw [ha, hc]
    exact le_kMax _ _ i
  · obtain ⟨i, hi⟩ := kMax_mem (rowAt arg1 arg3 arg4 arg5 X1 x2 X3 X4 X5 r) (grp (col1 k l))
    refine ⟨i, ?_⟩
    rw [ha, hc, hi]

theorem code1_at (hS : HasScales (arg12.view.read (Elt Ideal) X12) x2)
    (hA : ∀ r j, 0 ≤ kA (rowAt arg1 arg3 arg4 arg5 X1 x2 X3 X4 X5 r) j ∧ kA (rowAt arg1 arg3 arg4 arg5 X1 x2 X3 X4 X5 r) j < ⊤)
    (k : Fin k0_t1_loop.trips) (r : Fin 32) (l : Fin 128) :
    codeTile (F := Ideal) (master1 arg1 arg3 arg4 arg5 arg12 (iota .tc S16x128 32 [1] iota_S16x128_d1_w32) 32#32 k0_pay88 k0_pay89 k0_pay90 X1 X3 X4 X5 X12 k) (bytes1 arg1 arg3 arg4 arg5 arg12 (iota .tc S16x128 32 [1] iota_S16x128_d1_w32) 32#32 k0_pay88 k0_pay89 k0_pay90 X1 X3 X4 X5 X12 k) (ix2 r l)
      = kCode (rowAt arg1 arg3 arg4 arg5 X1 x2 X3 X4 X5 r) (col1 k l) := by
  have hw := master1_at arg1 arg3 arg4 arg5 arg12 X1 x2 X3 X4 X5 X12 hS k r l
  have hb := bytes1_at arg1 arg3 arg4 arg5 arg12 X1 x2 X3 X4 X5 X12 hS hA k r l
  exact codeTile_at _ _ _ _ _ hw hb

/-! ## Loop 2 -/

theorem trips2 : k0_t2_loop.trips = 24 := by decide +kernel

/-- The column of lane `l` in trip `k`. -/
def col2 (k : Fin k0_t2_loop.trips) (l : Fin 128) : Fin 7168 := ⟨128 * k.val + 4096 + l.val, by have := k.isLt; have := trips2; omega⟩

theorem codes2_at (k : Fin k0_t2_loop.trips) (b : Fin 16) (r : Fin 32) (l : Fin 128) :
    codes2 arg1 X1 k b.val (ix3 (0 : Fin 1) r l) = arg1.view.read (Elt Ideal) X1 (ix3 b r (col2 k l)) := by
  obtain ⟨b, hb⟩ := b
  interval_cases b
  · exact load_codes arg1 X1 _ _ 0 _ (k0_off18_eq k) r l (by norm_num) _
  · exact load_codes arg1 X1 _ _ 1 _ (k0_off19_eq k) r l (by norm_num) _
  · exact load_codes arg1 X1 _ _ 2 _ (k0_off20_eq k) r l (by norm_num) _
  · exact load_codes arg1 X1 _ _ 3 _ (k0_off21_eq k) r l (by norm_num) _
  · exact load_codes arg1 X1 _ _ 4 _ (k0_off22_eq k) r l (by norm_num) _
  · exact load_codes arg1 X1 _ _ 5 _ (k0_off23_eq k) r l (by norm_num) _
  · exact load_codes arg1 X1 _ _ 6 _ (k0_off24_eq k) r l (by norm_num) _
  · exact load_codes arg1 X1 _ _ 7 _ (k0_off25_eq k) r l (by norm_num) _
  · exact load_codes arg1 X1 _ _ 8 _ (k0_off26_eq k) r l (by norm_num) _
  · exact load_codes arg1 X1 _ _ 9 _ (k0_off27_eq k) r l (by norm_num) _
  · exact load_codes arg1 X1 _ _ 10 _ (k0_off28_eq k) r l (by norm_num) _
  · exact load_codes arg1 X1 _ _ 11 _ (k0_off29_eq k) r l (by norm_num) _
  · exact load_codes arg1 X1 _ _ 12 _ (k0_off30_eq k) r l (by norm_num) _
  · exact load_codes arg1 X1 _ _ 13 _ (k0_off31_eq k) r l (by norm_num) _
  · exact load_codes arg1 X1 _ _ 14 _ (k0_off32_eq k) r l (by norm_num) _
  · exact load_codes arg1 X1 _ _ 15 _ (k0_off33_eq k) r l (by norm_num) _

theorem words2_at (b : Fin 16) (s : Fin 16) (q : Fin 128) :
    words2 arg12 X12 b.val (ix3 (0 : Fin 1) s q) = arg12.view.read (Elt Ideal) X12 (ix3 b s (⟨128 + q.val, by omega⟩ : Fin 256)) := by
  obtain ⟨b, hb⟩ := b
  interval_cases b <;> exact load_words arg12 X12 _ _ _ _ rfl s q _ _

theorem cols2_at (arg : Memref sig .tc .vmem S32x7168 .f32) (X : BufTy.Contents (Elt Ideal) arg.view.ty) (k : Fin k0_t2_loop.trips) (r : Fin 32) (l : Fin 128) :
    cols2 arg X k (ix2 r l) = arg.view.read (Elt Ideal) X (ix2 r (col2 k l)) :=
  load_cols arg X _ _ _ (k0_off34_eq k) r l _

/-- The mean gradient of a tile. -/
theorem grad2_at (hS : HasScales (arg12.view.read (Elt Ideal) X12) x2) (k : Fin k0_t2_loop.trips) (r : Fin 32) (l : Fin 128) :
    grad2 (F := Ideal) arg1 arg12 (iota .tc S16x128 32 [1] iota_S16x128_d1_w32) 32#32 k0_pay88 k0_pay89 k0_pay90 X1 X12 k (ix2 r l) = kG (rowAt arg1 arg3 arg4 arg5 X1 x2 X3 X4 X5 r) (col2 k l) := by
  have hk := k.isLt
  have ht := trips2
  have hl := l.isLt
  unfold grad2
  refine (gradTile_at _ _ _ r l ⟨4 * k.val + l.val / 32, by omega⟩ (groupIdx_at _ l k.val (by omega))).trans ?_
  unfold kG
  congr 1
  refine Finset.sum_congr rfl fun b _ => ?_
  have h := hS b r (grp (col2 k l))
  rw [codes2_at, words2_at]
  refine congrArg₂ (· * ·) rfl ?_
  unfold kScale rowAt rowOf
  refine congrArg (Ideal.ofBits .bf16) (Eq.trans ?_ h)
  congr 4
  show 128 + (4 * k.val + l.val / 32) = (128 * k.val + 4096 + l.val) / 32
  omega

theorem m2_at (hS : HasScales (arg12.view.read (Elt Ideal) X12) x2) (k : Fin k0_t2_loop.trips) (r : Fin 32) (l : Fin 128) :
    k0_pay24 (F := Ideal) (grad2 arg1 arg12 (iota .tc S16x128 32 [1] iota_S16x128_d1_w32) 32#32 k0_pay88 k0_pay89 k0_pay90 X1 X12 k) (cols2 arg4 X4 k) (ix2 r l) = kM (rowAt arg1 arg3 arg4 arg5 X1 x2 X3 X4 X5 r) (col2 k l) := by
  have hg := grad2_at arg1 arg3 arg4 arg5 arg12 X1 x2 X3 X4 X5 X12 hS k r l
  exact adam_m _ _ _ _ _ hg (cols2_at arg4 X4 k r l)

theorem v2_at (hS : HasScales (arg12.view.read (Elt Ideal) X12) x2) (k : Fin k0_t2_loop.trips) (r : Fin 32) (l : Fin 128) :
    k0_pay25 (F := Ideal) (grad2 arg1 arg12 (iota .tc S16x128 32 [1] iota_S16x128_d1_w32) 32#32 k0_pay88 k0_pay89 k0_pay90 X1 X12 k) (cols2 arg5 X5 k) (ix2 r l) = kV (rowAt arg1 arg3 arg4 arg5 X1 x2 X3 X4 X5 r) (col2 k l) := by
  have hg := grad2_at arg1 arg3 arg4 arg5 arg12 X1 x2 X3 X4 X5 X12 hS k r l
  exact adam_v _ _ _ _ _ hg (cols2_at arg5 X5 k r l)

theorem u2_at (hS : HasScales (arg12.view.read (Elt Ideal) X12) x2) (k : Fin k0_t2_loop.trips) (r : Fin 32) (l : Fin 128) :
    k0_pay26 (F := Ideal) (grad2 arg1 arg12 (iota .tc S16x128 32 [1] iota_S16x128_d1_w32) 32#32 k0_pay88 k0_pay89 k0_pay90 X1 X12 k) (cols2 arg3 X3 k) (cols2 arg4 X4 k) (cols2 arg5 X5 k) (ix2 r l)
      = kU (rowAt arg1 arg3 arg4 arg5 X1 x2 X3 X4 X5 r) (col2 k l) := by
  have hg := grad2_at arg1 arg3 arg4 arg5 arg12 X1 x2 X3 X4 X5 X12 hS k r l
  exact adam_u _ _ _ _ _ _ _ hg (cols2_at arg3 X3 k r l) (cols2_at arg4 X4 k r l) (cols2_at arg5 X5 k r l)

theorem master2_at (hS : HasScales (arg12.view.read (Elt Ideal) X12) x2) (k : Fin k0_t2_loop.trips) (r : Fin 32) (l : Fin 128) :
    master2 (F := Ideal) arg1 arg3 arg4 arg5 arg12 (iota .tc S16x128 32 [1] iota_S16x128_d1_w32) 32#32 k0_pay88 k0_pay89 k0_pay90 X1 X3 X4 X5 X12 k (ix2 r l) = kW (rowAt arg1 arg3 arg4 arg5 X1 x2 X3 X4 X5 r) (col2 k l) := by
  have hu := u2_at arg1 arg3 arg4 arg5 arg12 X1 x2 X3 X4 X5 X12 hS k r l
  exact adam_w _ _ _ _ _ _ _ hu (cols2_at arg3 X3 k r l)

theorem a2_at (hS : HasScales (arg12.view.read (Elt Ideal) X12) x2) (k : Fin k0_t2_loop.trips) (r : Fin 32) (l : Fin 128) :
    k0_pay28 (F := Ideal) (grad2 arg1 arg12 (iota .tc S16x128 32 [1] iota_S16x128_d1_w32) 32#32 k0_pay88 k0_pay89 k0_pay90 X1 X12 k) (cols2 arg3 X3 k) (cols2 arg4 X4 k) (cols2 arg5 X5 k) (ix2 r l)
      = kA (rowAt arg1 arg3 arg4 arg5 X1 x2 X3 X4 X5 r) (col2 k l) := by
  have hw := master2_at arg1 arg3 arg4 arg5 arg12 X1 x2 X3 X4 X5 X12 hS k r l
  exact adam_a _ _ _ _ _ _ _ hw

/-- Every new weight is small enough for its pattern to be found. -/
theorem bytes2_at (hS : HasScales (arg12.view.read (Elt Ideal) X12) x2)
    (hA : ∀ r j, 0 ≤ kA (rowAt arg1 arg3 arg4 arg5 X1 x2 X3 X4 X5 r) j ∧ kA (rowAt arg1 arg3 arg4 arg5 X1 x2 X3 X4 X5 r) j < ⊤)
    (k : Fin k0_t2_loop.trips) (r : Fin 32) (l : Fin 128) :
    bytes2 (F := Ideal) arg1 arg3 arg4 arg5 arg12 (iota .tc S16x128 32 [1] iota_S16x128_d1_w32) 32#32 k0_pay88 k0_pay89 k0_pay90 X1 X3 X4 X5 X12 k (ix2 r l)
      = kByte (rowAt arg1 arg3 arg4 arg5 X1 x2 X3 X4 X5 r) (grp (col2 k l)) := by
  have ha := a2_at arg1 arg3 arg4 arg5 arg12 X1 x2 X3 X4 X5 X12 hS k
  have hl := l.isLt
  have hc : ∀ i : Fin 32, col2 k (⟨32 * (l.val / 32) + i.val, by omega⟩ : Fin 128) = col (grp (col2 k l)) i := fun i => Fin.ext (by
    show 128 * k.val + 4096 + (32 * (l.val / 32) + i.val) = 32 * ((128 * k.val + 4096 + l.val) / 32) + i.val
    omega)
  unfold bytes2
  refine scaleBytes_at _ (fun j => ?_) r l (kMax (rowAt arg1 arg3 arg4 arg5 X1 x2 X3 X4 X5 r) (grp (col2 k l))) (fun i => ?_) ?_
  · idx_vars j
    rw [ha]
    exact hA _ _
  · rw [ha, hc]
    exact le_kMax _ _ i
  · obtain ⟨i, hi⟩ := kMax_mem (rowAt arg1 arg3 arg4 arg5 X1 x2 X3 X4 X5 r) (grp (col2 k l))
    refine ⟨i, ?_⟩
    rw [ha, hc, hi]

theorem code2_at (hS : HasScales (arg12.view.read (Elt Ideal) X12) x2)
    (hA : ∀ r j, 0 ≤ kA (rowAt arg1 arg3 arg4 arg5 X1 x2 X3 X4 X5 r) j ∧ kA (rowAt arg1 arg3 arg4 arg5 X1 x2 X3 X4 X5 r) j < ⊤)
    (k : Fin k0_t2_loop.trips) (r : Fin 32) (l : Fin 128) :
    codeTile (F := Ideal) (master2 arg1 arg3 arg4 arg5 arg12 (iota .tc S16x128 32 [1] iota_S16x128_d1_w32) 32#32 k0_pay88 k0_pay89 k0_pay90 X1 X3 X4 X5 X12 k) (bytes2 arg1 arg3 arg4 arg5 arg12 (iota .tc S16x128 32 [1] iota_S16x128_d1_w32) 32#32 k0_pay88 k0_pay89 k0_pay90 X1 X3 X4 X5 X12 k) (ix2 r l)
      = kCode (rowAt arg1 arg3 arg4 arg5 X1 x2 X3 X4 X5 r) (col2 k l) := by
  have hw := master2_at arg1 arg3 arg4 arg5 arg12 X1 x2 X3 X4 X5 X12 hS k r l
  have hb := bytes2_at arg1 arg3 arg4 arg5 arg12 X1 x2 X3 X4 X5 X12 hS hA k r l
  exact codeTile_at _ _ _ _ _ hw hb

end Cert.Proof.Columns

end
-- ==== Proof.Blocks.lean ====
/-
  What the body leaves in its six output blocks: the tiles of the two loops cover a block, and each tile is the part of
  the row functions at its columns.
-/
module

public import proofs.«01_k».proof.Proof.Columns
public import proofs.«01_k».proof.Proof.Halves
public import Idealize.ShloMosaic.Lib.Pipeline.Value
public import Idealize.ShloMosaic.Lib.Pipeline.FrameBody

@[expose] public section

set_option maxRecDepth 16384

noncomputable section

namespace Cert.Proof.Blocks

open Cert.KernelIdeal Cert.KernelIdeal.Gen Cert.Proof.Tile Cert.Proof.Trips Cert.Proof.TileAt Cert.Proof.Row Cert.Proof.Columns
open Idealize.ShloMosaic

/-- A tile of 128 columns at column `c`, stored into a block: the block index of a tile index. -/
theorem emb_tile (off : Fin 2 → ℕ) (inb) (c : ℕ) (h : off = ![0, c]) (r : Fin 32) (l : Fin 128) (hc : c + l.val < 7168) :
    (Rect.unit (s := S32x7168) off S32x128.size inb).emb (ix2 r l) = ix2 r (⟨c + l.val, hc⟩ : Fin 7168) := by
  subst h
  funext a
  refine Fin.ext ?_
  refine (Rect.idx_unit_val _ _ _ _ _).trans ?_
  fin_cases a
  · exact Nat.zero_add _
  · rfl

theorem split2 {n0 n1 : ℕ} (x : (⟨2, ![n0, n1]⟩ : Shape).Idx) : ∃ (r : Fin n0) (l : Fin n1), x = ix2 r l := ⟨x 0, x 1, by funext a; fin_cases a <;> rfl⟩

theorem mem_tile (off : Fin 2 → ℕ) (inb) (c : ℕ) (h : off = ![0, c]) (r : Fin 32) (j : Fin 7168) (h0 : c ≤ j.val) (h1 : j.val < c + 128) :
    (ix2 r j : S32x7168.Idx) ∈ (Rect.unit (s := S32x7168) off S32x128.size inb).set := by
  subst h
  refine Rect.mem_set_unit.mpr fun a => ?_
  fin_cases a
  · exact ⟨Nat.zero_le _, by show r.val < 0 + 32; omega⟩
  · exact ⟨h0, h1⟩

theorem tile_agrees {e : EltTy} (G : Fin 32 → Fin 7168 → Elt Ideal e) (T : Vec Ideal S32x128 e) (off : Fin 2 → ℕ) (inb) (c : ℕ) (h : off = ![0, c])
    (hc : c + 128 ≤ 7168) (hT : ∀ (r : Fin 32) (l : Fin 128), T (ix2 r l) = G r ⟨c + l.val, by omega⟩) (x : S32x128.Idx) :
    T x = (fun i : S32x7168.Idx => G (i 0) (i 1)) ((Rect.unit (s := S32x7168) off S32x128.size inb).emb x) := by
  obtain ⟨r, l, rfl⟩ := split2 x
  rw [hT, emb_tile off inb c h r l (by omega)]
  rfl

/-- The tiles of the two loops cover a block, so it holds what they agree on. -/
theorem cover {e : EltTy} (arg : Memref sig .tc .vmem S32x7168 e) (f : BufTy.Contents (Elt Ideal) arg.view.ty)
    (T1 : Fin k0_t1_loop.trips → Vec Ideal S32x128 e) (T2 : Fin k0_t2_loop.trips → Vec Ideal S32x128 e) (G : Fin 32 → Fin 7168 → Elt Ideal e)
    (h1 : ∀ k r l, T1 k (ix2 r l) = G r (col1 k l)) (h2 : ∀ k r l, T2 k (ix2 r l) = G r (col2 k l)) :
    arg.view.read (Elt Ideal) (arg.view.writes (Elt Ideal) f
        (stack (fun k => (⟨Rect.unit (s := S32x7168) (k0_off34 k) S32x128.size (k0_off34_inb k), T2 k⟩ : View.Piece (Elt Ideal) S32x7168 e)) k0_t2_loop.trips
          ++ stack (fun k => (⟨Rect.unit (s := S32x7168) (k0_off17 k) S32x128.size (k0_off17_inb k), T1 k⟩ : View.Piece (Elt Ideal) S32x7168 e)) k0_t1_loop.trips))
      = fun i => G (i 0) (i 1) := by
  have ht1 := trips1
  have ht2 := trips2
  have hcov : ∀ y : S32x7168.Idx, ∃ p ∈ (stack (fun k => (⟨Rect.unit (s := S32x7168) (k0_off34 k) S32x128.size (k0_off34_inb k), T2 k⟩ : View.Piece (Elt Ideal) S32x7168 e)) k0_t2_loop.trips
          ++ stack (fun k => (⟨Rect.unit (s := S32x7168) (k0_off17 k) S32x128.size (k0_off17_inb k), T1 k⟩ : View.Piece (Elt Ideal) S32x7168 e)) k0_t1_loop.trips), y ∈ p.1.set := fun y => by
    obtain ⟨r, j, rfl⟩ := split2 y
    by_cases hb : j.val < 4096
    · exact ⟨_, List.mem_append_right _ ((mem_stack _ _ _).mpr ⟨⟨j.val / 128, by omega⟩, Fin.isLt _, rfl⟩),
        mem_tile _ (k0_off17_inb _) _ (k0_off17_eq _) r j (by show 128 * (j.val / 128) ≤ j.val; omega) (by show j.val < 128 * (j.val / 128) + 128; omega)⟩
    · exact ⟨_, List.mem_append_left _ ((mem_stack _ _ _).mpr ⟨⟨(j.val - 4096) / 128, by omega⟩, Fin.isLt _, rfl⟩),
        mem_tile _ (k0_off34_inb _) _ (k0_off34_eq _) r j (by show 128 * ((j.val - 4096) / 128) + 4096 ≤ j.val; omega)
          (by show j.val < 128 * ((j.val - 4096) / 128) + 4096 + 128; omega)⟩
  rw [View.read_writes_eq_canon _ _ _ hcov]
  funext y
  refine View.canon_apply_of_pieces (fun i : S32x7168.Idx => G (i 0) (i 1)) _ (fun p hp x => ?_) y (hcov y)
  rcases List.mem_append.mp hp with hp | hp
  · obtain ⟨k, -, rfl⟩ := (mem_stack _ _ _).mp hp
    have hk := k.isLt
    exact tile_agrees G (T2 k) _ (k0_off34_inb k) _ (k0_off34_eq k) (by omega) (fun r l => h2 k r l) x
  · obtain ⟨k, -, rfl⟩ := (mem_stack _ _ _).mp hp
    have hk := k.isLt
    exact tile_agrees G (T1 k) _ (k0_off17_inb k) _ (k0_off17_eq k) (by omega) (fun r l => h1 k r l) x

/-! ## The scale scratch -/

/-- A rank's scale block. -/
def scaleBlock (x2 : S16x32x224.Idx → BitVec 8) (b : Fin 16) : Vec Ideal S1x32x224 .i8 := fun i => x2 (ix3 b (i 1 : Fin 32) (i 2 : Fin 224))

theorem packScales_at (x2 : S16x32x224.Idx → BitVec 8) (b : Fin 16) (r : Fin 32) (q : Fin 224) :
    (k0_pay69 (F := Ideal) (scaleBlock x2 b) (ix3 (0 : Fin 1) (⟨r.val / 2, by omega⟩ : Fin 16) q)).extractLsb' (16 * (r.val % 2)) 16 = scaleBits (x2 (ix3 b r q)) := by
  unfold k0_pay69
  have hq := q.isLt
  have e : ∀ (z : IVec S32x224 16), (shapeCast S1x16x224 (bitcast S16x224 32 z bitcasts_S32x224_w16_S16x224_w32) shapeCasts_S16x224_S1x16x224
      (ix3 (0 : Fin 1) (⟨r.val / 2, by omega⟩ : Fin 16) q)).extractLsb' (16 * (r.val % 2)) 16 = z (ix2 r q) := fun z => by
    refine Eq.trans ?_ (Halves.half_pair z bitcasts_S32x224_w16_S16x224_w32 r q (by omega) rfl)
    generalize bitcast S16x224 32 z bitcasts_S32x224_w16_S16x224_w32 = w
    pointwise
  rw [e]
  unfold scaleBlock scaleBits
  pointwise
  rfl

theorem block_inb (b : Fin 16) : ∀ a, (![b.val, 0, 0] : Fin 3 → ℕ) a + S1x16x224.size a ≤ S16x16x256.size a := by
  intro a
  fin_cases a
  · show b.val + 1 ≤ 16; omega
  · show 0 + 16 ≤ 16; omega
  · show 0 + 224 ≤ 256; omega

/-- What the scratch holds: in the lanes of the groups the packed scales. -/
def scratch (x2 : S16x32x224.Idx → BitVec 8) : S16x16x256.Idx → BitVec 32 := fun i =>
  if h : (i 2).val < 224 then k0_pay69 (F := Ideal) (scaleBlock x2 (i 0 : Fin 16)) (ix3 (0 : Fin 1) (i 1 : Fin 16) (⟨(i 2).val, h⟩ : Fin 224)) else 0#32

theorem scratch_at (x2 : S16x32x224.Idx → BitVec 8) (b s : Fin 16) (q : Fin 224) (hq : q.val < 256) :
    scratch x2 (ix3 b s (⟨q.val, hq⟩ : Fin 256)) = k0_pay69 (F := Ideal) (scaleBlock x2 b) (ix3 (0 : Fin 1) s q) := by
  unfold scratch
  exact dif_pos q.isLt

/-- The sixteen stores into the scratch leave every rank's scales in it. -/
theorem scales_stored (arg12 : Memref sig .tc .vmem S16x16x256 .i32) (f : BufTy.Contents (Elt Ideal) arg12.view.ty) (x2 : S16x32x224.Idx → BitVec 8) :
    HasScales (arg12.view.read (Elt Ideal) (arg12.view.writes (Elt Ideal) f
      (stack (fun b : Fin 16 => (⟨Rect.unit (s := S16x16x256) ![b.val, 0, 0] S1x16x224.size (block_inb b), k0_pay69 (F := Ideal) (scaleBlock x2 b)⟩ : View.Piece (Elt Ideal) S16x16x256 .i32)) 16))) x2 := by
  intro b r q
  have hq := q.isLt
  have hb := b.isLt
  have hemb : ∀ (b : Fin 16) (s : Fin 16) (q : Fin 224), (Rect.unit (s := S16x16x256) ![b.val, 0, 0] S1x16x224.size (block_inb b)).emb (ix3 (0 : Fin 1) s q)
      = ix3 b s (⟨q.val, by omega⟩ : Fin 256) := fun b s q => by
    funext a
    refine Fin.ext ((Rect.idx_unit_val _ _ _ _ _).trans ?_)
    fin_cases a
    · rfl
    · exact Nat.zero_add _
    · exact Nat.zero_add _
  have hm : ix3 b (⟨r.val / 2, by omega⟩ : Fin 16) (⟨q.val, by omega⟩ : Fin 256)
      ∈ (Rect.unit (s := S16x16x256) ![b.val, 0, 0] S1x16x224.size (block_inb b)).set := by
    rw [← hemb]; exact LoadRect.idx_mem _ _
  have hex : ∃ p ∈ (stack (fun b : Fin 16 => (⟨Rect.unit (s := S16x16x256) ![b.val, 0, 0] S1x16x224.size (block_inb b), k0_pay69 (F := Ideal) (scaleBlock x2 b)⟩ : View.Piece (Elt Ideal) S16x16x256 .i32)) 16),
      (ix3 b (⟨r.val / 2, by omega⟩ : Fin 16) (⟨q.val, by omega⟩ : Fin 256) : S16x16x256.Idx) ∈ p.1.set :=
    ⟨_, (mem_stack _ _ _).mpr ⟨b, b.isLt, rfl⟩, hm⟩
  rw [View.read_writes_apply_eq_canon _ _ _ _ hex]
  rw [View.canon_apply_of_pieces (Val := Elt Ideal) (e := .i32) (scratch x2) _ (fun p hp x => ?_) _ hex]
  · rw [scratch_at]
    exact packScales_at x2 b r q
  · obtain ⟨b, -, rfl⟩ := (mem_stack _ _ _).mp hp
    obtain ⟨z, s, q, rfl⟩ : ∃ (z : Fin 1) (s : Fin 16) (q : Fin 224), x = ix3 z s q := ⟨x 0, x 1, x 2, by funext a; fin_cases a <;> rfl⟩
    obtain rfl : z = 0 := Subsingleton.elim _ _
    beta_reduce
    refine ((congrArg (scratch x2) (hemb b s q)).trans (scratch_at x2 b s q _)).symm

section
variable (arg2 : Memref sig .tc .vmem S16x32x224 .i8) (arg12 : Memref sig .tc .vmem S16x16x256 .i32) (f2 : BufTy.Contents (Elt Ideal) arg2.view.ty)
  (f : BufTy.Contents (Elt Ideal) arg12.view.ty)

theorem load_inb (b : Fin 16) : ∀ a, (![b.val, 0, 0] : Fin 3 → ℕ) a + S1x32x224.size a ≤ S16x32x224.size a := by
  intro a
  fin_cases a
  · show b.val + 1 ≤ 16; omega
  · show 0 + 32 ≤ 32; omega
  · show 0 + 224 ≤ 224; omega

theorem load_scales (b : Fin 16) :
    View.readAt (Elt Ideal) arg2.view (Rect.unit (s := S16x32x224) ![b.val, 0, 0] S1x32x224.size (load_inb b)).toLoadRect f2
      = scaleBlock (arg2.view.read (Elt Ideal) f2) b := by
  funext x
  obtain ⟨z, s, q, rfl⟩ : ∃ (z : Fin 1) (s : Fin 32) (q : Fin 224), x = ix3 z s q := ⟨x 0, x 1, x 2, by funext a; fin_cases a <;> rfl⟩
  obtain rfl : z = 0 := Subsingleton.elim _ _
  refine View.ld_unit_apply_of _ _ _ _ _ (ix3 b s q) fun a => ?_
  fin_cases a
  · rfl
  · exact (Nat.zero_add _).symm
  · exact (Nat.zero_add _).symm

/-- The store of rank `b`'s scales. -/
def scalePiece (b : Fin 16) : View.Piece (Elt Ideal) S16x16x256 .i32 :=
  ⟨Rect.unit (s := S16x16x256) ![b.val, 0, 0] S1x16x224.size (block_inb b),
    k0_pay69 (F := Ideal) (View.readAt (Elt Ideal) arg2.view (Rect.unit (s := S16x32x224) ![b.val, 0, 0] S1x32x224.size (load_inb b)).toLoadRect f2)⟩

/-- The scratch after the sixteen stores. -/
def scratchOf : BufTy.Contents (Elt Ideal) arg12.view.ty := arg12.view.writes (Elt Ideal) f (stack (scalePiece arg2 f2) 16)

theorem hasScales : HasScales (arg12.view.read (Elt Ideal) (scratchOf arg2 arg12 f2 f)) (arg2.view.read (Elt Ideal) f2) := by
  have e : scalePiece arg2 f2 = fun b => ⟨Rect.unit (s := S16x16x256) ![b.val, 0, 0] S1x16x224.size (block_inb b), k0_pay69 (F := Ideal) (scaleBlock (arg2.view.read (Elt Ideal) f2) b)⟩ :=
    funext fun b => by unfold scalePiece; rw [load_scales]
  unfold scratchOf
  rw [e]
  exact scales_stored arg12 f _

theorem stack16 {α : Type _} (g : Fin 16 → α) :
    stack g 16 = [g 15, g 14, g 13, g 12, g 11, g 10, g 9, g 8, g 7, g 6, g 5, g 4, g 3, g 2, g 1, g 0] := rfl

theorem scratchOf_eq : arg12.view.writes (Elt Ideal) f
      [⟨Rect.unit (s := S16x16x256) ![15, 0, 0] S1x16x224.size inb_S16x16x256_S1x16x224_15_0_0, k0_pay87 (F := Ideal) (View.readAt (Elt Ideal) arg2.view (Rect.unit (s := S16x32x224) ![15, 0, 0] S1x32x224.size inb_S16x32x224_S1x32x224_15_0_0).toLoadRect f2)⟩,
       ⟨Rect.unit (s := S16x16x256) ![14, 0, 0] S1x16x224.size inb_S16x16x256_S1x16x224_14_0_0, k0_pay86 (F := Ideal) (View.readAt (Elt Ideal) arg2.view (Rect.unit (s := S16x32x224) ![14, 0, 0] S1x32x224.size inb_S16x32x224_S1x32x224_14_0_0).toLoadRect f2)⟩,
       ⟨Rect.unit (s := S16x16x256) ![13, 0, 0] S1x16x224.size inb_S16x16x256_S1x16x224_13_0_0, k0_pay85 (k0_pay84 (F := Ideal) (View.readAt (Elt Ideal) arg2.view (Rect.unit (s := S16x32x224) ![13, 0, 0] S1x32x224.size inb_S16x32x224_S1x32x224_13_0_0).toLoadRect f2))⟩,
       ⟨Rect.unit (s := S16x16x256) ![12, 0, 0] S1x16x224.size inb_S16x16x256_S1x16x224_12_0_0, k0_pay83 (F := Ideal) (View.readAt (Elt Ideal) arg2.view (Rect.unit (s := S16x32x224) ![12, 0, 0] S1x32x224.size inb_S16x32x224_S1x32x224_12_0_0).toLoadRect f2)⟩,
       ⟨Rect.unit (s := S16x16x256) ![11, 0, 0] S1x16x224.size inb_S16x16x256_S1x16x224_11_0_0, k0_pay82 (F := Ideal) (View.readAt (Elt Ideal) arg2.view (Rect.unit (s := S16x32x224) ![11, 0, 0] S1x32x224.size inb_S16x32x224_S1x32x224_11_0_0).toLoadRect f2)⟩,
       ⟨Rect.unit (s := S16x16x256) ![10, 0, 0] S1x16x224.size inb_S16x16x256_S1x16x224_10_0_0, k0_pay81 (F := Ideal) (View.readAt (Elt Ideal) arg2.view (Rect.unit (s := S16x32x224) ![10, 0, 0] S1x32x224.size inb_S16x32x224_S1x32x224_10_0_0).toLoadRect f2)⟩,
       ⟨Rect.unit (s := S16x16x256) ![9, 0, 0] S1x16x224.size inb_S16x16x256_S1x16x224_9_0_0, k0_pay80 (F := Ideal) (View.readAt (Elt Ideal) arg2.view (Rect.unit (s := S16x32x224) ![9, 0, 0] S1x32x224.size inb_S16x32x224_S1x32x224_9_0_0).toLoadRect f2)⟩,
       ⟨Rect.unit (s := S16x16x256) ![8, 0, 0] S1x16x224.size inb_S16x16x256_S1x16x224_8_0_0, k0_pay79 (F := Ideal) (View.readAt (Elt Ideal) arg2.view (Rect.unit (s := S16x32x224) ![8, 0, 0] S1x32x224.size inb_S16x32x224_S1x32x224_8_0_0).toLoadRect f2)⟩,
       ⟨Rect.unit (s := S16x16x256) ![7, 0, 0] S1x16x224.size inb_S16x16x256_S1x16x224_7_0_0, k0_pay78 (F := Ideal) (View.readAt (Elt Ideal) arg2.view (Rect.unit (s := S16x32x224) ![7, 0, 0] S1x32x224.size inb_S16x32x224_S1x32x224_7_0_0).toLoadRect f2)⟩,
       ⟨Rect.unit (s := S16x16x256) ![6, 0, 0] S1x16x224.size inb_S16x16x256_S1x16x224_6_0_0, k0_pay77 (k0_pay76 (F := Ideal) (View.readAt (Elt Ideal) arg2.view (Rect.unit (s := S16x32x224) ![6, 0, 0] S1x32x224.size inb_S16x32x224_S1x32x224_6_0_0).toLoadRect f2))⟩,
       ⟨Rect.unit (s := S16x16x256) ![5, 0, 0] S1x16x224.size inb_S16x16x256_S1x16x224_5_0_0, k0_pay75 (F := Ideal) (View.readAt (Elt Ideal) arg2.view (Rect.unit (s := S16x32x224) ![5, 0, 0] S1x32x224.size inb_S16x32x224_S1x32x224_5_0_0).toLoadRect f2)⟩,
       ⟨Rect.unit (s := S16x16x256) ![4, 0, 0] S1x16x224.size inb_S16x16x256_S1x16x224_4_0_0, k0_pay74 (F := Ideal) (View.readAt (Elt Ideal) arg2.view (Rect.unit (s := S16x32x224) ![4, 0, 0] S1x32x224.size inb_S16x32x224_S1x32x224_4_0_0).toLoadRect f2)⟩,
       ⟨Rect.unit (s := S16x16x256) ![3, 0, 0] S1x16x224.size inb_S16x16x256_S1x16x224_3_0_0, k0_pay73 (k0_pay72 (F := Ideal) (View.readAt (Elt Ideal) arg2.view (Rect.unit (s := S16x32x224) ![3, 0, 0] S1x32x224.size inb_S16x32x224_S1x32x224_3_0_0).toLoadRect f2))⟩,
       ⟨Rect.unit (s := S16x16x256) ![2, 0, 0] S1x16x224.size inb_S16x16x256_S1x16x224_2_0_0, k0_pay71 (F := Ideal) (View.readAt (Elt Ideal) arg2.view (Rect.unit (s := S16x32x224) ![2, 0, 0] S1x32x224.size inb_S16x32x224_S1x32x224_2_0_0).toLoadRect f2)⟩,
       ⟨Rect.unit (s := S16x16x256) ![1, 0, 0] S1x16x224.size inb_S16x16x256_S1x16x224_1_0_0, k0_pay70 (F := Ideal) (View.readAt (Elt Ideal) arg2.view (Rect.unit (s := S16x32x224) ![1, 0, 0] S1x32x224.size inb_S16x32x224_S1x32x224_1_0_0).toLoadRect f2)⟩,
       ⟨Rect.unit (s := S16x16x256) ![0, 0, 0] S1x16x224.size inb_S16x16x256_S1x16x224_0_0_0, k0_pay69 (F := Ideal) (View.readAt (Elt Ideal) arg2.view (Rect.unit (s := S16x32x224) ![0, 0, 0] S1x32x224.size inb_S16x32x224_S1x32x224_0_0_0).toLoadRect f2)⟩]
    = scratchOf arg2 arg12 f2 f :=
  congrArg (arg12.view.writes (Elt Ideal) f) (stack16 (scalePiece arg2 f2)).symm
end

/-- The two stores of the scale bytes cover their block. -/
theorem bytes_cover (arg11 : Memref sig .tc .vmem S32x224 .i8) (f : BufTy.Contents (Elt Ideal) arg11.view.ty) (b1 b2 : IVec S32x128 32)
    (G : Fin 32 → Fin 224 → BitVec 32) (h1 : ∀ (r : Fin 32) (l : Fin 128), b1 (ix2 r l) = G r ⟨l.val, by omega⟩)
    (h2 : ∀ (r : Fin 32) (l : Fin 96) (hl : l.val < 128), b2 (ix2 r (⟨l.val, hl⟩ : Fin 128)) = G r ⟨128 + l.val, by omega⟩) :
    arg11.view.read (Elt Ideal) (arg11.view.writes (Elt Ideal) f
        [⟨Rect.unit (s := S32x224) ![0, 128] S32x96.size inb_S32x224_S32x96_0_128, k0_pay8 b2⟩,
         ⟨Rect.unit (s := S32x224) ![0, 0] S32x128.size inb_S32x224_S32x128_0_0, k0_pay7 b1⟩])
      = fun i => (G (i 0) (i 1)).setWidth 8 := by
  have hcov : ∀ y : S32x224.Idx, ∃ p ∈ ([⟨Rect.unit (s := S32x224) ![0, 128] S32x96.size inb_S32x224_S32x96_0_128, k0_pay8 b2⟩,
         ⟨Rect.unit (s := S32x224) ![0, 0] S32x128.size inb_S32x224_S32x128_0_0, k0_pay7 b1⟩] : List (View.Piece (Elt Ideal) S32x224 .i8)), y ∈ p.1.set := fun y => by
    obtain ⟨r, q, rfl⟩ := split2 y
    by_cases hq : q.val < 128
    · refine ⟨_, List.mem_cons_of_mem _ List.mem_cons_self, (Rect.mem_set_unit (inb := inb_S32x224_S32x128_0_0)).mpr fun a => ?_⟩
      fin_cases a
      · exact ⟨Nat.zero_le _, by show r.val < 0 + 32; omega⟩
      · exact ⟨Nat.zero_le _, by show q.val < 0 + 128; omega⟩
    · refine ⟨_, List.mem_cons_self, (Rect.mem_set_unit (inb := inb_S32x224_S32x96_0_128)).mpr fun a => ?_⟩
      fin_cases a
      · exact ⟨Nat.zero_le _, by show r.val < 0 + 32; omega⟩
      · exact ⟨by show 128 ≤ q.val; omega, by show q.val < 128 + 96; omega⟩
  rw [View.read_writes_eq_canon _ _ _ hcov]
  funext y
  refine View.canon_apply_of_pieces (Val := Elt Ideal) (e := .i8) (fun i : S32x224.Idx => (G (i 0) (i 1)).setWidth 8) _ (fun p hp x => ?_) y (hcov y)
  rcases List.mem_cons.mp hp with rfl | hp
  · obtain ⟨r, l, rfl⟩ := split2 (n0 := 32) (n1 := 96) x
    have hl := l.isLt
    have e : (Rect.unit (s := S32x224) ![0, 128] S32x96.size inb_S32x224_S32x96_0_128).emb (ix2 r l) = ix2 r (⟨128 + l.val, by omega⟩ : Fin 224) := by
      funext a
      refine Fin.ext ((Rect.idx_unit_val _ _ _ _ _).trans ?_)
      fin_cases a
      · exact Nat.zero_add _
      · rfl
    refine Eq.trans ?_ (congrArg (fun i : S32x224.Idx => (G (i 0) (i 1)).setWidth 8) e).symm
    show k0_pay8 b2 (ix2 r l) = (G r (⟨128 + l.val, by omega⟩ : Fin 224)).setWidth 8
    rw [← h2 r l (by omega)]
    pointwise [k0_pay8]
  · obtain rfl := List.mem_singleton.mp hp
    obtain ⟨r, l, rfl⟩ := split2 (n0 := 32) (n1 := 128) x
    have hl := l.isLt
    have e : (Rect.unit (s := S32x224) ![0, 0] S32x128.size inb_S32x224_S32x128_0_0).emb (ix2 r l) = ix2 r (⟨l.val, by omega⟩ : Fin 224) := by
      funext a
      refine Fin.ext ((Rect.idx_unit_val _ _ _ _ _).trans ?_)
      fin_cases a
      · exact Nat.zero_add _
      · exact Nat.zero_add _
    refine Eq.trans ?_ (congrArg (fun i : S32x224.Idx => (G (i 0) (i 1)).setWidth 8) e).symm
    show k0_pay7 b1 (ix2 r l) = (G r (⟨l.val, by omega⟩ : Fin 224)).setWidth 8
    rw [← h1 r l]
    pointwise [k0_pay7]

/-! ## The six output blocks -/

section
variable (𝒱 : Variants) (c : Dev nD) (bd : Option 𝒱.V) (i : grid0.Coords) (arg1 : Memref sig .tc .vmem S16x32x7168 .fp8e5m2) (harg1 : arg1.IsWhole) (arg2 : Memref sig .tc .vmem S16x32x224 .i8) (harg2 : arg2.IsWhole) (arg3 : Memref sig .tc .vmem S32x7168 .f32) (harg3 : arg3.IsWhole) (arg4 : Memref sig .tc .vmem S32x7168 .f32) (harg4 : arg4.IsWhole) (arg5 : Memref sig .tc .vmem S32x7168 .f32) (harg5 : arg5.IsWhole) (arg6 : Memref sig .tc .vmem S32x7168 .f32) (harg6 : arg6.IsWhole) (arg7 : Memref sig .tc .vmem S32x7168 .f32) (harg7 : arg7.IsWhole) (arg8 : Memref sig .tc .vmem S32x7168 .f32) (harg8 : arg8.IsWhole) (arg9 : Memref sig .tc .vmem S32x7168 .f32) (harg9 : arg9.IsWhole) (arg10 : Memref sig .tc .vmem S32x7168 .fp8e4m3) (harg10 : arg10.IsWhole) (arg11 : Memref sig .tc .vmem S32x224 .i8) (harg11 : arg11.IsWhole) (arg12 : Memref sig .tc .vmem S16x16x256 .i32) (harg12 : arg12.IsWhole) (arg13 : Memref sig .tc .vmem S8x128 .i32) (harg13 : arg13.IsWhole) (X1 : BufTy.Contents (Elt Ideal) arg1.view.ty) (x2 : S16x32x224.Idx → BitVec 8) (X3 : BufTy.Contents (Elt Ideal) arg3.view.ty) (X4 : BufTy.Contents (Elt Ideal) arg4.view.ty) (X5 : BufTy.Contents (Elt Ideal) arg5.view.ty) (X12 : BufTy.Contents (Elt Ideal) arg12.view.ty)

theorem out6 (hS : HasScales (arg12.view.read (Elt Ideal) X12) x2)  (f : BufTy.Contents (Elt Ideal) arg6.view.ty) :
    arg6.view.read (Elt Ideal) (arg6.view.writes (Elt Ideal) f ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 k0_t2_loop.trips).2.1 ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 k0_t1_loop.trips).2.1))
      = fun i => kW (rowAt arg1 arg3 arg4 arg5 X1 x2 X3 X4 X5 (i 0)) (i 1) := by
  rw [loop1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 _ (Nat.le_refl _), loop2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 _ (Nat.le_refl _)]
  dsimp only
  exact cover arg6 f (fun k => (master1 arg1 arg3 arg4 arg5 arg12 (iota .tc S16x128 32 [1] iota_S16x128_d1_w32) 32#32 k0_pay88 k0_pay89 k0_pay90 X1 X3 X4 X5 X12 k)) (fun k => (master2 arg1 arg3 arg4 arg5 arg12 (iota .tc S16x128 32 [1] iota_S16x128_d1_w32) 32#32 k0_pay88 k0_pay89 k0_pay90 X1 X3 X4 X5 X12 k)) (fun r j => kW (rowAt arg1 arg3 arg4 arg5 X1 x2 X3 X4 X5 r) j)
    (fun k r l => master1_at arg1 arg3 arg4 arg5 arg12 X1 x2 X3 X4 X5 X12 hS k r l) (fun k r l => master2_at arg1 arg3 arg4 arg5 arg12 X1 x2 X3 X4 X5 X12 hS k r l)

theorem out7 (hS : HasScales (arg12.view.read (Elt Ideal) X12) x2)  (f : BufTy.Contents (Elt Ideal) arg7.view.ty) :
    arg7.view.read (Elt Ideal) (arg7.view.writes (Elt Ideal) f ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 k0_t2_loop.trips).2.2.1 ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 k0_t1_loop.trips).2.2.1))
      = fun i => kM (rowAt arg1 arg3 arg4 arg5 X1 x2 X3 X4 X5 (i 0)) (i 1) := by
  rw [loop1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 _ (Nat.le_refl _), loop2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 _ (Nat.le_refl _)]
  dsimp only
  exact cover arg7 f (fun k => k0_pay24 (grad1 arg1 arg12 (iota .tc S16x128 32 [1] iota_S16x128_d1_w32) 32#32 k0_pay88 k0_pay89 k0_pay90 X1 X12 k) (cols1 arg4 X4 k)) (fun k => k0_pay24 (grad2 arg1 arg12 (iota .tc S16x128 32 [1] iota_S16x128_d1_w32) 32#32 k0_pay88 k0_pay89 k0_pay90 X1 X12 k) (cols2 arg4 X4 k)) (fun r j => kM (rowAt arg1 arg3 arg4 arg5 X1 x2 X3 X4 X5 r) j)
    (fun k r l => m1_at arg1 arg3 arg4 arg5 arg12 X1 x2 X3 X4 X5 X12 hS k r l) (fun k r l => m2_at arg1 arg3 arg4 arg5 arg12 X1 x2 X3 X4 X5 X12 hS k r l)

theorem out8 (hS : HasScales (arg12.view.read (Elt Ideal) X12) x2)  (f : BufTy.Contents (Elt Ideal) arg8.view.ty) :
    arg8.view.read (Elt Ideal) (arg8.view.writes (Elt Ideal) f ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 k0_t2_loop.trips).2.2.2.1 ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 k0_t1_loop.trips).2.2.2.1))
      = fun i => kV (rowAt arg1 arg3 arg4 arg5 X1 x2 X3 X4 X5 (i 0)) (i 1) := by
  rw [loop1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 _ (Nat.le_refl _), loop2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 _ (Nat.le_refl _)]
  dsimp only
  exact cover arg8 f (fun k => k0_pay25 (grad1 arg1 arg12 (iota .tc S16x128 32 [1] iota_S16x128_d1_w32) 32#32 k0_pay88 k0_pay89 k0_pay90 X1 X12 k) (cols1 arg5 X5 k)) (fun k => k0_pay25 (grad2 arg1 arg12 (iota .tc S16x128 32 [1] iota_S16x128_d1_w32) 32#32 k0_pay88 k0_pay89 k0_pay90 X1 X12 k) (cols2 arg5 X5 k)) (fun r j => kV (rowAt arg1 arg3 arg4 arg5 X1 x2 X3 X4 X5 r) j)
    (fun k r l => v1_at arg1 arg3 arg4 arg5 arg12 X1 x2 X3 X4 X5 X12 hS k r l) (fun k r l => v2_at arg1 arg3 arg4 arg5 arg12 X1 x2 X3 X4 X5 X12 hS k r l)

theorem out9 (hS : HasScales (arg12.view.read (Elt Ideal) X12) x2)  (f : BufTy.Contents (Elt Ideal) arg9.view.ty) :
    arg9.view.read (Elt Ideal) (arg9.view.writes (Elt Ideal) f ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 k0_t2_loop.trips).2.2.2.2.1 ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 k0_t1_loop.trips).2.2.2.2.1))
      = fun i => kU (rowAt arg1 arg3 arg4 arg5 X1 x2 X3 X4 X5 (i 0)) (i 1) := by
  rw [loop1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 _ (Nat.le_refl _), loop2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 _ (Nat.le_refl _)]
  dsimp only
  exact cover arg9 f (fun k => k0_pay26 (grad1 arg1 arg12 (iota .tc S16x128 32 [1] iota_S16x128_d1_w32) 32#32 k0_pay88 k0_pay89 k0_pay90 X1 X12 k) (cols1 arg3 X3 k) (cols1 arg4 X4 k) (cols1 arg5 X5 k)) (fun k => k0_pay26 (grad2 arg1 arg12 (iota .tc S16x128 32 [1] iota_S16x128_d1_w32) 32#32 k0_pay88 k0_pay89 k0_pay90 X1 X12 k) (cols2 arg3 X3 k) (cols2 arg4 X4 k) (cols2 arg5 X5 k)) (fun r j => kU (rowAt arg1 arg3 arg4 arg5 X1 x2 X3 X4 X5 r) j)
    (fun k r l => u1_at arg1 arg3 arg4 arg5 arg12 X1 x2 X3 X4 X5 X12 hS k r l) (fun k r l => u2_at arg1 arg3 arg4 arg5 arg12 X1 x2 X3 X4 X5 X12 hS k r l)

theorem out10 (hS : HasScales (arg12.view.read (Elt Ideal) X12) x2) (hA : ∀ r j, 0 ≤ kA (rowAt arg1 arg3 arg4 arg5 X1 x2 X3 X4 X5 r) j ∧ kA (rowAt arg1 arg3 arg4 arg5 X1 x2 X3 X4 X5 r) j < ⊤) (f : BufTy.Contents (Elt Ideal) arg10.view.ty) :
    arg10.view.read (Elt Ideal) (arg10.view.writes (Elt Ideal) f ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 k0_t2_loop.trips).2.2.2.2.2 ++ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 k0_t1_loop.trips).2.2.2.2.2))
      = fun i => kCode (rowAt arg1 arg3 arg4 arg5 X1 x2 X3 X4 X5 (i 0)) (i 1) := by
  rw [loop1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 _ (Nat.le_refl _), loop2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 _ (Nat.le_refl _)]
  dsimp only
  exact cover arg10 f (fun k => codeTile (master1 arg1 arg3 arg4 arg5 arg12 (iota .tc S16x128 32 [1] iota_S16x128_d1_w32) 32#32 k0_pay88 k0_pay89 k0_pay90 X1 X3 X4 X5 X12 k) (bytes1 arg1 arg3 arg4 arg5 arg12 (iota .tc S16x128 32 [1] iota_S16x128_d1_w32) 32#32 k0_pay88 k0_pay89 k0_pay90 X1 X3 X4 X5 X12 k)) (fun k => codeTile (master2 arg1 arg3 arg4 arg5 arg12 (iota .tc S16x128 32 [1] iota_S16x128_d1_w32) 32#32 k0_pay88 k0_pay89 k0_pay90 X1 X3 X4 X5 X12 k) (bytes2 arg1 arg3 arg4 arg5 arg12 (iota .tc S16x128 32 [1] iota_S16x128_d1_w32) 32#32 k0_pay88 k0_pay89 k0_pay90 X1 X3 X4 X5 X12 k)) (fun r j => kCode (rowAt arg1 arg3 arg4 arg5 X1 x2 X3 X4 X5 r) j)
    (fun k r l => code1_at arg1 arg3 arg4 arg5 arg12 X1 x2 X3 X4 X5 X12 hS hA k r l) (fun k r l => code2_at arg1 arg3 arg4 arg5 arg12 X1 x2 X3 X4 X5 X12 hS hA k r l)

/-- The carried bytes after loop 1: lane `l` holds the byte of group `l`. -/
theorem carry1 (hS : HasScales (arg12.view.read (Elt Ideal) X12) x2) (hA : ∀ r j, 0 ≤ kA (rowAt arg1 arg3 arg4 arg5 X1 x2 X3 X4 X5 r) j ∧ kA (rowAt arg1 arg3 arg4 arg5 X1 x2 X3 X4 X5 r) j < ⊤) (r : Fin 32) (l : Fin 128) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 k0_t1_loop.trips).1 (ix2 r l) = kByte (rowAt arg1 arg3 arg4 arg5 X1 x2 X3 X4 X5 r) ⟨l.val, by omega⟩ := by
  rw [loop1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 _ (Nat.le_refl _)]
  have ht := trips1
  have hl := l.isLt
  refine (fold_at (by omega) _ _ r l _ (Nat.le_refl _) (by omega) (by omega)).trans ?_
  refine (bytes1_at arg1 arg3 arg4 arg5 arg12 X1 x2 X3 X4 X5 X12 hS hA _ r _).trans ?_
  congr 1
  refine Fin.ext ?_
  show (128 * (l.val / 4) + 0 + 32 * (l.val % 4)) / 32 = l.val
  omega

/-- The carried bytes after loop 2: lane `l < 96` holds the byte of group `128 + l`. -/
theorem carry2 (hS : HasScales (arg12.view.read (Elt Ideal) X12) x2) (hA : ∀ r j, 0 ≤ kA (rowAt arg1 arg3 arg4 arg5 X1 x2 X3 X4 X5 r) j ∧ kA (rowAt arg1 arg3 arg4 arg5 X1 x2 X3 X4 X5 r) j < ⊤) (r : Fin 32) (l : Fin 96) (hl' : l.val < 128) :
    (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 k0_t2_loop.trips).1 (ix2 r (⟨l.val, hl'⟩ : Fin 128)) = kByte (rowAt arg1 arg3 arg4 arg5 X1 x2 X3 X4 X5 r) ⟨128 + l.val, by omega⟩ := by
  rw [loop2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 _ (Nat.le_refl _)]
  have ht := trips2
  have hl := l.isLt
  refine (fold_at (by omega) _ _ r _ _ (Nat.le_refl _) (by show l.val / 4 < _; omega) (by show l.val / 4 < _; omega)).trans ?_
  refine (bytes2_at arg1 arg3 arg4 arg5 arg12 X1 x2 X3 X4 X5 X12 hS hA _ r _).trans ?_
  congr 1
  refine Fin.ext ?_
  show (128 * (l.val / 4) + 4096 + 32 * (l.val % 4)) / 32 = 128 + l.val
  omega

theorem out11 (hS : HasScales (arg12.view.read (Elt Ideal) X12) x2) (hA : ∀ r j, 0 ≤ kA (rowAt arg1 arg3 arg4 arg5 X1 x2 X3 X4 X5 r) j ∧ kA (rowAt arg1 arg3 arg4 arg5 X1 x2 X3 X4 X5 r) j < ⊤) (f : BufTy.Contents (Elt Ideal) arg11.view.ty) :
    arg11.view.read (Elt Ideal) (arg11.view.writes (Elt Ideal) f
        [⟨Rect.unit (s := S32x224) ![0, 128] S32x96.size inb_S32x224_S32x96_0_128, k0_pay8 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 k0_t2_loop.trips).1⟩,
         ⟨Rect.unit (s := S32x224) ![0, 0] S32x128.size inb_S32x224_S32x128_0_0, k0_pay7 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 k0_t1_loop.trips).1⟩])
      = fun i => (kByte (rowAt arg1 arg3 arg4 arg5 X1 x2 X3 X4 X5 (i 0)) (i 1)).setWidth 8 := by
  have h1 := carry1 𝒱 c bd i arg1 harg1 arg2 harg2 arg3 harg3 arg4 harg4 arg5 harg5 arg6 harg6 arg7 harg7 arg8 harg8 arg9 harg9 arg10 harg10 arg11 harg11 arg12 harg12 arg13 harg13 X1 x2 X3 X4 X5 X12 hS hA
  have h2 := carry2 𝒱 c bd i arg1 harg1 arg2 harg2 arg3 harg3 arg4 harg4 arg5 harg5 arg6 harg6 arg7 harg7 arg8 harg8 arg9 harg9 arg10 harg10 arg11 harg11 arg12 harg12 arg13 harg13 X1 x2 X3 X4 X5 X12 hS hA
  generalize (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay3 k0_t1_loop.trips).1 = b1 at *
  generalize (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 (iota .tc S16x128 32 [1] iota_S16x128_d1_w32) 32#32 k0_pay88 k0_pay89 k0_pay90 X1 X3 X4 X5 X12 k0_pay5 k0_t2_loop.trips).1 = b2 at *
  exact bytes_cover arg11 f b1 b2 (fun r q => kByte (rowAt arg1 arg3 arg4 arg5 X1 x2 X3 X4 X5 r) q) h1 h2
end

end Cert.Proof.Blocks

end
-- ==== Proof.KernelIdealRun.lean ====
/-
  The run of the idealized kernel with its results named: while every new weight is finite, each output block holds the
  row functions of the point's input blocks.
-/
module

public import proofs.«01_k».proof.Proof.Blocks
public import proofs.«01_k».proof.Proof.Gen.KernelIdeal.Frame
public import proofs.«01_k».proof.Proof.Gen.KernelIdeal.Loops
public import Idealize.ShloMosaic.Lib.Tactic
public import Idealize.ShloMosaic.Lib.Pipeline.Kit
public import Idealize.ShloMosaic.Lib.Quiescent

@[expose] public section

set_option maxRecDepth 16384

noncomputable section

namespace Cert.Proof.KernelIdealRun

open Cert.KernelIdeal Cert.KernelIdeal.Gen Cert.Proof.Row Cert.Proof.Columns Cert.Proof.Blocks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

section
variable (x1 : Vec Ideal S16x32x7168 .fp8e5m2) (x2 : Vec Ideal S16x32x224 .i8) (x3 x4 x5 : Vec Ideal S32x7168 .f32)

/-- The output blocks, from the input blocks. -/
def wBlk : Vec Ideal S32x7168 .f32 := fun i => kW (rowOf (R := 32) x1 x2 x3 x4 x5 (i 0)) (i 1)
def mBlk : Vec Ideal S32x7168 .f32 := fun i => kM (rowOf (R := 32) x1 x2 x3 x4 x5 (i 0)) (i 1)
def vBlk : Vec Ideal S32x7168 .f32 := fun i => kV (rowOf (R := 32) x1 x2 x3 x4 x5 (i 0)) (i 1)
def uBlk : Vec Ideal S32x7168 .f32 := fun i => kU (rowOf (R := 32) x1 x2 x3 x4 x5 (i 0)) (i 1)
def codeBlk : Vec Ideal S32x7168 .fp8e4m3 := fun i => kCode (rowOf (R := 32) x1 x2 x3 x4 x5 (i 0)) (i 1)
def byteBlk : Vec Ideal S32x224 .i8 := fun i => (kByte (rowOf (R := 32) x1 x2 x3 x4 x5 (i 0)) (i 1)).setWidth 8

/-- Every new weight of the block is finite. -/
def Finite : Prop := ∀ r j, 0 ≤ kA (rowOf (R := 32) x1 x2 x3 x4 x5 r) j ∧ kA (rowOf (R := 32) x1 x2 x3 x4 x5 r) j < ⊤
end

/-- The body run once: from the five input blocks, the six output blocks and the scratch at anything, to its return with
    the inputs as they were, the outputs at the row functions and the scratch at something. -/
theorem sound_kernel (c : Dev nD) (i : grid0.Coords) (arg1 : Memref sig .tc .vmem S16x32x7168 .fp8e5m2) (harg1 : arg1.IsWhole) (arg2 : Memref sig .tc .vmem S16x32x224 .i8) (harg2 : arg2.IsWhole) (arg3 : Memref sig .tc .vmem S32x7168 .f32) (harg3 : arg3.IsWhole) (arg4 : Memref sig .tc .vmem S32x7168 .f32) (harg4 : arg4.IsWhole) (arg5 : Memref sig .tc .vmem S32x7168 .f32) (harg5 : arg5.IsWhole) (arg6 : Memref sig .tc .vmem S32x7168 .f32) (harg6 : arg6.IsWhole) (arg7 : Memref sig .tc .vmem S32x7168 .f32) (harg7 : arg7.IsWhole) (arg8 : Memref sig .tc .vmem S32x7168 .f32) (harg8 : arg8.IsWhole) (arg9 : Memref sig .tc .vmem S32x7168 .f32) (harg9 : arg9.IsWhole) (arg10 : Memref sig .tc .vmem S32x7168 .fp8e4m3) (harg10 : arg10.IsWhole) (arg11 : Memref sig .tc .vmem S32x224 .i8) (harg11 : arg11.IsWhole) (arg12 : Memref sig .tc .vmem S16x16x256 .i32) (harg12 : arg12.IsWhole) (arg13 : Memref sig .tc .vmem S8x128 .i32) (harg13 : arg13.IsWhole)
    (x1 : Vec Ideal S16x32x7168 .fp8e5m2) (x2 : Vec Ideal S16x32x224 .i8) (x3 x4 x5 : Vec Ideal S32x7168 .f32) (hA : Finite x1 x2 x3 x4 x5) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (wBlk x1 x2 x3 x4 x5) ∗ owns (c : Thread nD τ) arg7 fullShare (mBlk x1 x2 x3 x4 x5) ∗ owns (c : Thread nD τ) arg8 fullShare (vBlk x1 x2 x3 x4 x5) ∗ owns (c : Thread nD τ) arg9 fullShare (uBlk x1 x2 x3 x4 x5) ∗ owns (c : Thread nD τ) arg10 fullShare (codeBlk x1 x2 x3 x4 x5) ∗ owns (c : Thread nD τ) arg11 fullShare (byteBlk x1 x2 x3 x4 x5) ∗ (∃ d, owns (c : Thread nD τ) arg12 fullShare d)) -∗ K ⟨⟩))
      ⊢ wp frame (wpE (defs₀ (F := Ideal)) Variants.none c none) Set.univ
          (cc0_zero_rs_adamw i arg1 harg1 arg2 harg2 arg3 harg3 arg4 harg4 arg5 harg5 arg6 harg6 arg7 harg7 arg8 harg8 arg9 harg9 arg10 harg10 arg11 harg11 arg12 harg12 arg13 harg13) K := by
  simp only [cc0_zero_rs_adamw_eq_skeleton]; unfold cc0_zero_rs_adamw_skel
  simp only [k0_part27_eq_skeleton, k0_part28_eq_skeleton, k0_part29_eq_skeleton, k0_part30_eq_skeleton, k0_part31_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5
  sl_exec
  sl_step
  sl_unfold_run_names
  rw [scratchOf_eq arg2 arg12 f2 f12]
  have hS := hasScales arg2 arg12 f2 f12
  generalize scratchOf arg2 arg12 f2 f12 = X12 at *
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    exact out6 Variants.none c none i arg1 harg1 arg2 harg2 arg3 harg3 arg4 harg4 arg5 harg5 arg6 harg6 arg7 harg7 arg8 harg8 arg9 harg9 arg10 harg10 arg11 harg11 arg12 harg12 arg13 harg13 f1 (arg2.view.read (Elt Ideal) f2) f3 f4 f5 _ hS f6
  isplitl [H7]
  · iexists _; isplitr; swap; · iexact H7
    ipureintro
    exact out7 Variants.none c none i arg1 harg1 arg2 harg2 arg3 harg3 arg4 harg4 arg5 harg5 arg6 harg6 arg7 harg7 arg8 harg8 arg9 harg9 arg10 harg10 arg11 harg11 arg12 harg12 arg13 harg13 f1 (arg2.view.read (Elt Ideal) f2) f3 f4 f5 _ hS f7
  isplitl [H8]
  · iexists _; isplitr; swap; · iexact H8
    ipureintro
    exact out8 Variants.none c none i arg1 harg1 arg2 harg2 arg3 harg3 arg4 harg4 arg5 harg5 arg6 harg6 arg7 harg7 arg8 harg8 arg9 harg9 arg10 harg10 arg11 harg11 arg12 harg12 arg13 harg13 f1 (arg2.view.read (Elt Ideal) f2) f3 f4 f5 _ hS f8
  isplitl [H9]
  · iexists _; isplitr; swap; · iexact H9
    ipureintro
    exact out9 Variants.none c none i arg1 harg1 arg2 harg2 arg3 harg3 arg4 harg4 arg5 harg5 arg6 harg6 arg7 harg7 arg8 harg8 arg9 harg9 arg10 harg10 arg11 harg11 arg12 harg12 arg13 harg13 f1 (arg2.view.read (Elt Ideal) f2) f3 f4 f5 _ hS f9
  isplitl [H10]
  · iexists _; isplitr; swap; · iexact H10
    ipureintro
    exact out10 Variants.none c none i arg1 harg1 arg2 harg2 arg3 harg3 arg4 harg4 arg5 harg5 arg6 harg6 arg7 harg7 arg8 harg8 arg9 harg9 arg10 harg10 arg11 harg11 arg12 harg12 arg13 harg13 f1 (arg2.view.read (Elt Ideal) f2) f3 f4 f5 _ hS hA f10
  isplitl [H11]
  · iexists _; isplitr; swap; · iexact H11
    ipureintro
    exact out11 Variants.none c none i arg1 harg1 arg2 harg2 arg3 harg3 arg4 harg4 arg5 harg5 arg6 harg6 arg7 harg7 arg8 harg8 arg9 harg9 arg10 harg10 arg11 harg11 arg12 harg12 arg13 harg13 f1 (arg2.view.read (Elt Ideal) f2) f3 f4 f5 _ hS hA f11
  iexists _, _; isplitr; swap; · iexact H12
  ipureintro; rfl

/-- The proof data: each array as the region finds it, an input's block left in place, an output's at the row
    functions. -/
def dats (_ : Fin 1) (c : Dev nD) : Dat τ (Elt Ideal) Unit ℕ (UR sig nD τ) ℕ cfg0 c where
  A w := V m c (Pipeline.arrRef spec0 w)
  after
    | 0 => iblk m c 0 | 1 => iblk m c 1 | 2 => iblk m c 2 | 3 => iblk m c 3 | 4 => iblk m c 4
    | 5 => fun t => wBlk (iblk m c 0 t) (iblk m c 1 t) (iblk m c 2 t) (iblk m c 3 t) (iblk m c 4 t) | 6 => fun t => mBlk (iblk m c 0 t) (iblk m c 1 t) (iblk m c 2 t) (iblk m c 3 t) (iblk m c 4 t) | 7 => fun t => vBlk (iblk m c 0 t) (iblk m c 1 t) (iblk m c 2 t) (iblk m c 3 t) (iblk m c 4 t)
    | 8 => fun t => uBlk (iblk m c 0 t) (iblk m c 1 t) (iblk m c 2 t) (iblk m c 3 t) (iblk m c 4 t) | 9 => fun t => codeBlk (iblk m c 0 t) (iblk m c 1 t) (iblk m c 2 t) (iblk m c 3 t) (iblk m c 4 t) | 10 => fun t => byteBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (wBlk (iblk m c 0 t) (iblk m c 1 t) (iblk m c 2 t) (iblk m c 3 t) (iblk m c 4 t))
    ∗ owns (c : Thread nD τ) (st0_6 t) fullShare (mBlk (iblk m c 0 t) (iblk m c 1 t) (iblk m c 2 t) (iblk m c 3 t) (iblk m c 4 t))
    ∗ owns (c : Thread nD τ) (st0_7 t) fullShare (vBlk (iblk m c 0 t) (iblk m c 1 t) (iblk m c 2 t) (iblk m c 3 t) (iblk m c 4 t))
    ∗ owns (c : Thread nD τ) (st0_8 t) fullShare (uBlk (iblk m c 0 t) (iblk m c 1 t) (iblk m c 2 t) (iblk m c 3 t) (iblk m c 4 t))
    ∗ owns (c : Thread nD τ) (st0_9 t) fullShare (codeBlk (iblk m c 0 t) (iblk m c 1 t) (iblk m c 2 t) (iblk m c 3 t) (iblk m c 4 t))
    ∗ owns (c : Thread nD τ) (st0_10 t) fullShare (byteBlk (iblk m c 0 t) (iblk m c 1 t) (iblk m c 2 t) (iblk m c 3 t) (iblk m c 4 t)))

/-- The region's invariant opened: the two scratch buffers at some contents each, and the generator register. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- The body at any point. -/
theorem sound_body (c : Dev nD) (t : Fin cfg0.N) (hA : Finite (iblk m c 0 t) (iblk m c 1 t) (iblk m c 2 t) (iblk m c 3 t) (iblk m c 4 t)) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨HS, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) hA _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS]; · iexact HS
  iintro ⟨H0, H1, H2, H3, H4, H5, H6, H7, H8, H9, H10, HS⟩
  isplitl [HS HT Hg]
  · isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation. -/
theorem body_obligation (c : Dev nD) (hA : ∀ t : Fin cfg0.N, Finite (iblk m c 0 t) (iblk m c 1 t) (iblk m c 2 t) (iblk m c 3 t) (iblk m c 4 t)) :
    BodyObligation (dats m 0 c) (defs₀ (F := Ideal)) Variants.none () Set.univ := fun t => by
  rw [bigSep_W0, bigSep_W0, defs₀_row]
  exact triple_restated (sound_body m c t (hA t)) rfl .rfl fun _ => .rfl

set_option backward.isDefEq.respectTransparency.types false in
set_option maxHeartbeats 800000 in
/-- The launch. -/
theorem run_main (hA : ∀ (c : Dev nD) (t : Fin cfg0.N), Finite (iblk m c 0 t) (iblk m c 1 t) (iblk m c 2 t) (iblk m c 3 t) (iblk m c 4 t)) :
    θ_run defs (onTc (τ := τ) (main (F := Ideal))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c (hA c)).loose) (hshare := fun c => (dats m 0 c).share_full fun _ => rfl)
    (howed := fun _ _ => rfl) (V := V m) (hmain := hmain m Variants.none) (hA := A_eq m) (hΦ := fun _ _ => rfl)

end Cert.Proof.KernelIdealRun

end
-- ==== Proof.KernelArrays.lean ====
/-
  The six result arrays of the idealized kernel: at row `i` and column `j` the row functions of the argument arrays' row.
-/
module

public import proofs.«01_k».proof.Proof.KernelIdealRun
public import Idealize.ShloMosaic.Lib.Pipeline.ValueKit

@[expose] public section

set_option maxRecDepth 16384

noncomputable section

namespace Cert.Proof.KernelArrays

open Cert.KernelIdeal Cert.KernelIdeal.Gen Cert.Proof.Row Cert.Proof.Columns Cert.Proof.KernelIdealRun
open Idealize.ShloMosaic Idealize.ShloMosaic.TcCoe

variable (m : (ℓ : Loc nD τ sig) → Buf (Elt Ideal) ℓ)

/-- The row of the argument arrays. -/
def argRow (c : Dev nD) (r : Fin 2432) : Data :=
  rowOf (R := 2432) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r

/-- Point `t` has block row `t` of every window. -/
theorem idx : ∀ t : Fin cfg0.N, win0_0.index t = ![0, t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ t.val < 76 :=
  (by decide +kernel : ∀ t : Fin grid0.N, _)

theorem lt_N (t : Fin cfg0.N) : t.val < 76 := (idx t).2.2.2.2.2.2.2.2.2.2.2

/-- Row `r` of point `t`'s input blocks is row `32 t + r` of the arrays. -/
theorem row_blk (c : Dev nD) (t : Fin cfg0.N) (r : Fin 32) :
    rowOf (R := 32) (iblk m c 0 t) (iblk m c 1 t) (iblk m c 2 t) (iblk m c 3 t) (iblk m c 4 t) r
      = argRow m c ⟨32 * t.val + r.val, by have := lt_N t; omega⟩ := by
  have ht := lt_N t
  unfold argRow rowOf
  congr 1
  · funext b j; blk_ext [iblk, V, idx t]
  · funext b j; blk_ext [iblk, V, idx t]
  · funext j; blk_ext [iblk, V, idx t]
  · funext j; blk_ext [iblk, V, idx t]
  · funext j; blk_ext [iblk, V, idx t]

/-- Rows that are finite in the arrays are finite in every block. -/
theorem finite_blk (c : Dev nD) (hA : ∀ r j, 0 ≤ kA (argRow m c r) j ∧ kA (argRow m c r) j < ⊤) (t : Fin cfg0.N) :
    Finite (iblk m c 0 t) (iblk m c 1 t) (iblk m c 2 t) (iblk m c 3 t) (iblk m c 4 t) := fun r j => by
  rw [row_blk]; exact hA _ j

theorem after_w (c : Dev nD) (t : Fin cfg0.N) :
    (dats m 0 c).after 5 t = wBlk (iblk m c 0 t) (iblk m c 1 t) (iblk m c 2 t) (iblk m c 3 t) (iblk m c 4 t) := by dsimp only [dats]

/-- The new weights. -/
theorem final_w (c : Dev nD) : (dats m 0 c).arrAt 5 (cfgs 0).N = ((fun i => kW (argRow m c (i 0)) (i 1)) : Vec Ideal S2432x7168 .f32) := by
  refine (dats m 0 c).arrAt_eq_of_covers 5 _ (by decide +kernel) fun t _ y => ?_
  blk_simp
  rw [after_w]
  refine (congrArg (fun D => kW D (y 1)) (row_blk m c t (y 0))).trans ?_
  refine congrArg₂ (fun r j => (fun D (j : Fin 7168) => kW D j) (argRow m c r) j) (Fin.ext ?_) (Fin.ext ?_)
  · blk_simp [idx t]
    show 32 * t.val + _ = _
    ring
  · blk_simp [idx t]
    first | done | exact (Nat.zero_add _).symm | (show _ = 0 * _ + _; ring)

theorem after_m (c : Dev nD) (t : Fin cfg0.N) :
    (dats m 0 c).after 6 t = mBlk (iblk m c 0 t) (iblk m c 1 t) (iblk m c 2 t) (iblk m c 3 t) (iblk m c 4 t) := by dsimp only [dats]

/-- The new first moment. -/
theorem final_m (c : Dev nD) : (dats m 0 c).arrAt 6 (cfgs 0).N = ((fun i => kM (argRow m c (i 0)) (i 1)) : Vec Ideal S2432x7168 .f32) := by
  refine (dats m 0 c).arrAt_eq_of_covers 6 _ (by decide +kernel) fun t _ y => ?_
  blk_simp
  rw [after_m]
  refine (congrArg (fun D => kM D (y 1)) (row_blk m c t (y 0))).trans ?_
  refine congrArg₂ (fun r j => (fun D (j : Fin 7168) => kM D j) (argRow m c r) j) (Fin.ext ?_) (Fin.ext ?_)
  · blk_simp [idx t]
    show 32 * t.val + _ = _
    ring
  · blk_simp [idx t]
    first | done | exact (Nat.zero_add _).symm | (show _ = 0 * _ + _; ring)

theorem after_v (c : Dev nD) (t : Fin cfg0.N) :
    (dats m 0 c).after 7 t = vBlk (iblk m c 0 t) (iblk m c 1 t) (iblk m c 2 t) (iblk m c 3 t) (iblk m c 4 t) := by dsimp only [dats]

/-- The new second moment. -/
theorem final_v (c : Dev nD) : (dats m 0 c).arrAt 7 (cfgs 0).N = ((fun i => kV (argRow m c (i 0)) (i 1)) : Vec Ideal S2432x7168 .f32) := by
  refine (dats m 0 c).arrAt_eq_of_covers 7 _ (by decide +kernel) fun t _ y => ?_
  blk_simp
  rw [after_v]
  refine (congrArg (fun D => kV D (y 1)) (row_blk m c t (y 0))).trans ?_
  refine congrArg₂ (fun r j => (fun D (j : Fin 7168) => kV D j) (argRow m c r) j) (Fin.ext ?_) (Fin.ext ?_)
  · blk_simp [idx t]
    show 32 * t.val + _ = _
    ring
  · blk_simp [idx t]
    first | done | exact (Nat.zero_add _).symm | (show _ = 0 * _ + _; ring)

theorem after_u (c : Dev nD) (t : Fin cfg0.N) :
    (dats m 0 c).after 8 t = uBlk (iblk m c 0 t) (iblk m c 1 t) (iblk m c 2 t) (iblk m c 3 t) (iblk m c 4 t) := by dsimp only [dats]

/-- The update. -/
theorem final_u (c : Dev nD) : (dats m 0 c).arrAt 8 (cfgs 0).N = ((fun i => kU (argRow m c (i 0)) (i 1)) : Vec Ideal S2432x7168 .f32) := by
  refine (dats m 0 c).arrAt_eq_of_covers 8 _ (by decide +kernel) fun t _ y => ?_
  blk_simp
  rw [after_u]
  refine (congrArg (fun D => kU D (y 1)) (row_blk m c t (y 0))).trans ?_
  refine congrArg₂ (fun r j => (fun D (j : Fin 7168) => kU D j) (argRow m c r) j) (Fin.ext ?_) (Fin.ext ?_)
  · blk_simp [idx t]
    show 32 * t.val + _ = _
    ring
  · blk_simp [idx t]
    first | done | exact (Nat.zero_add _).symm | (show _ = 0 * _ + _; ring)

theorem after_code (c : Dev nD) (t : Fin cfg0.N) :
    (dats m 0 c).after 9 t = codeBlk (iblk m c 0 t) (iblk m c 1 t) (iblk m c 2 t) (iblk m c 3 t) (iblk m c 4 t) := by dsimp only [dats]

/-- The codes. -/
theorem final_code (c : Dev nD) : (dats m 0 c).arrAt 9 (cfgs 0).N = ((fun i => kCode (argRow m c (i 0)) (i 1)) : Vec Ideal S2432x7168 .fp8e4m3) := by
  refine (dats m 0 c).arrAt_eq_of_covers 9 _ (by decide +kernel) fun t _ y => ?_
  blk_simp
  rw [after_code]
  refine (congrArg (fun D => kCode D (y 1)) (row_blk m c t (y 0))).trans ?_
  refine congrArg₂ (fun r j => (fun D (j : Fin 7168) => kCode D j) (argRow m c r) j) (Fin.ext ?_) (Fin.ext ?_)
  · blk_simp [idx t]
    show 32 * t.val + _ = _
    ring
  · blk_simp [idx t]
    first | done | exact (Nat.zero_add _).symm | (show _ = 0 * _ + _; ring)

theorem after_byte (c : Dev nD) (t : Fin cfg0.N) :
    (dats m 0 c).after 10 t = byteBlk (iblk m c 0 t) (iblk m c 1 t) (iblk m c 2 t) (iblk m c 3 t) (iblk m c 4 t) := by dsimp only [dats]

/-- The scale bytes. -/
theorem final_byte (c : Dev nD) : (dats m 0 c).arrAt 10 (cfgs 0).N = ((fun i => (kByte (argRow m c (i 0)) (i 1)).setWidth 8) : Vec Ideal S2432x224 .i8) := by
  refine (dats m 0 c).arrAt_eq_of_covers 10 _ (by decide +kernel) fun t _ y => ?_
  blk_simp
  rw [after_byte]
  refine (congrArg (fun D => (kByte D (y 1)).setWidth 8) (row_blk m c t (y 0))).trans ?_
  refine congrArg₂ (fun r j => (fun D (j : Fin 224) => (kByte D j).setWidth 8) (argRow m c r) j) (Fin.ext ?_) (Fin.ext ?_)
  · blk_simp [idx t]
    show 32 * t.val + _ = _
    ring
  · blk_simp [idx t]
    first | done | exact (Nat.zero_add _).symm | (show _ = 0 * _ + _; ring)

end Cert.Proof.KernelArrays

end
-- ==== Proof.RefRow.lean ====
/-
  What the reference computes on one row: the mean gradient, the Adam step, the group exponents, the scale bytes and the
  codes, as functions of the row's codes, scale bytes, weights and moments.
-/
module

public import proofs.«01_k».proof.Proof.Row

@[expose] public section

noncomputable section

namespace Cert.Proof.RefRow

open Idealize.ShloMosaic Cert.Proof.Row

/-- `2 ^ e` as the reference states it: infinite from 128 on, zero below -126. -/
def rTwoTo (e : BitVec 32) : EReal :=
  if (127#32).slt e then Ideal.ofBits .f32 0x7F800000#32
  else if e.slt 4294967170#32 then Ideal.ofBits .f32 0x00000000#32 else Ideal.exp2 ((e.toInt : ℝ) : EReal)

/-- The number that a scale byte names. -/
def rScale (b : BitVec 8) : EReal := rTwoTo (b.setWidth 32 - 127#32)

/-- The bias corrections. -/
def bc1 : EReal := ((87842334540943071199 / 100000000000000000000 : ℝ) : EReal)
def bc2 : EReal := ((67267626542454041806644399 / 104857600000000000000000000 : ℝ) : EReal)

variable (D : Data)

/-- The mean gradient. -/
def rG (j : Fin 7168) : EReal := Ideal.div (∑ b : Fin 16, D.codes b j * rScale (D.scales b (grp j))) (Ideal.ofBits .f32 0x41800000#32)

/-- The new first moment. -/
def rM (j : Fin 7168) : EReal := Ideal.ofBits .f32 0x3F666666#32 * D.m j + Ideal.ofBits .f32 0x3DCCCCCD#32 * rG D j

/-- The new second moment. -/
def rV (j : Fin 7168) : EReal := Ideal.ofBits .f32 0x3F733333#32 * D.v j + Ideal.ofBits .f32 0x3D4CCCCD#32 * (rG D j * rG D j)

/-- The update. -/
def rU (j : Fin 7168) : EReal :=
  Ideal.ofBits .f32 0x3A83126F#32 * (Ideal.div (Ideal.div (rM D j) bc1) (Ideal.sqrt (Ideal.div (rV D j) bc2) + Ideal.ofBits .f32 0x322BCC77#32)
    + Ideal.ofBits .f32 0x3DCCCCCD#32 * D.master j)

/-- The new weight. -/
def rW (j : Fin 7168) : EReal := D.master j - rU D j

/-- The greatest absolute value of a group over 448. -/
def rMax (q : Fin 224) : EReal := (Finset.univ.sup fun i : Fin 32 => max (rW D (col q i)) (-rW D (col q i))) * Ideal.ofBits .f32 0x3B124925#32

/-- The exponent of a nonnegative number, as a float. -/
def rExpF (a : EReal) : EReal :=
  if a < Ideal.ofBits .f32 0x00800000#32 then Ideal.ofBits .f32 0x00000000#32
  else Ideal.liftRound Int.floor (Ideal.div (Ideal.log a) ((Real.log 2 : ℝ) : EReal)) + Ideal.ofBits .f32 0x3F800000#32

/-- The exponent of a group. -/
def rExp (q : Fin 224) : BitVec 32 := Ideal.fptosi 32 (rExpF (rMax D q))

/-- The scale byte of a group. -/
def rByte (q : Fin 224) : BitVec 8 := (rExp D q + 127#32).setWidth 8

/-- The code of a new weight. -/
def rCode (j : Fin 7168) : EReal :=
  min (Ideal.ofBits .f32 0x43E00000#32) (max (Ideal.ofBits .f32 0xC3E00000#32) (rW D j * rTwoTo (0#32 - rExp D (grp j))))

end Cert.Proof.RefRow

end
-- ==== Proof.RefArrays.lean ====
/-
  The six result arrays of the reference: at row `i` and column `j` the row functions of the argument arrays' row.
-/
module

public import proofs.«01_k».proof.Proof.RefRow
public import proofs.«01_k».proof.Proof.Columns
public import proofs.«01_k».proof.Proof.Gen.ReferenceIdeal.Frame
public import Idealize.ShloMosaic.Lib.Pipeline.ValueKit
public import Idealize.ShloMosaic.Lib.Pointwise

@[expose] public section

set_option maxRecDepth 16384

noncomputable section

namespace Cert.Proof.RefArrays

open Cert.ReferenceIdeal Cert.ReferenceIdeal.Gen Cert.Proof.Row Cert.Proof.RefRow
open Cert.Proof.Columns (rowOf)
open Idealize.ShloMosaic Idealize.ShloMosaic.TcCoe

section
variable (x0 : Vec Ideal S16x2432x7168 .fp8e5m2) (x1 : Vec Ideal S16x2432x224 .i8) (x2 x3 x4 : Vec Ideal S2432x7168 .f32)

/-- The reference's two selects around `exp2`. -/
theorem two_to (e : BitVec 32) :
    Scalar.select (IntOp.cmpi .sgt e 127#32) (Ideal.ofBits .f32 0x7F800000#32)
      (Scalar.select (IntOp.cmpi .slt e 4294967170#32) 0 (FloatOps.exp2 (F := Ideal) (φ := .f32) (FloatOps.sitofp .f32 e))) = rTwoTo e := by
  unfold rTwoTo
  have h0 : Ideal.ofBits .f32 0x00000000#32 = 0 := by simp [Ideal.ofBits, Ideal.ieee]
  have hb : ∀ (b : Bool) (x y : EReal), Scalar.select (α := EReal) (BitVec.ofBool b) x y = if b then x else y := by
    intro b x y; cases b <;> rfl
  rw [h0]
  refine (hb ((127#32).slt e) _ _).trans (congrArg (fun z => if (127#32).slt e then Ideal.ofBits .f32 0x7F800000#32 else z) ?_)
  exact hb (e.slt 4294967170#32) _ _

theorem named_bc1 : Named.named (F := Ideal) (φ := .f32) κ "bc1" 0x3F60E05A#32 = bc1 := IdealRules.named_const.ideal_named_scalar _ _ _ _ rfl
theorem named_bc2 : Named.named (F := Ideal) (φ := .f32) κ "bc2" 0x3F243A44#32 = bc2 := IdealRules.named_const.ideal_named_scalar _ _ _ _ rfl
theorem named_ln2 : Named.named (F := Ideal) (φ := .f32) κ "ln2" 0x3F317218#32 = ((Real.log 2 : ℝ) : EReal) := IdealRules.named_const.ideal_named_scalar _ _ _ _ rfl

theorem ld_scales : View.ld x1 r0_0 = x1 := by funext i; pointwise
theorem ld_codes : View.ld x0 r0_1 = x0 := by funext i; pointwise
theorem ld_row : View.ld x2 r0_2 = x2 := by funext i; pointwise

/-- A fold of `max` from minus infinity is the supremum. -/
theorem fold_max {n : ℕ} (f : Fin n → EReal) :
    Finset.fold max (Ideal.ofBits .f32 0xFF800000#32) f Finset.univ = Finset.univ.sup f := by
  rw [show Ideal.ofBits .f32 0xFF800000#32 = ⊥ by simp [Ideal.ofBits, Ideal.ieee]]
  rfl

theorem grad_at (r : Fin 2432) (j : Fin 7168) :
    k0_pay4 (F := Ideal) x1 x0 (ix2 r j) = rG (rowOf (R := 2432) x0 x1 x2 x3 x4 r) j := by
  unfold rG rScale rowOf grp
  pointwise [k0_pay4]
  simp only [two_to]
  rfl

theorem m_at (r : Fin 2432) (j : Fin 7168) :
    k0_pay12 (F := Ideal) x0 x1 x2 x3 x4 (ix2 r j) = rM (rowOf (R := 2432) x0 x1 x2 x3 x4 r) j := by
  unfold rM
  rw [← grad_at x0 x1 x2 x3 x4 r j]
  unfold k0_pay12
  rw [ld_scales, ld_codes]
  pointwise [k0_pay5, rowOf]

theorem v_at (r : Fin 2432) (j : Fin 7168) :
    k0_pay13 (F := Ideal) x0 x1 x2 x3 x4 (ix2 r j) = rV (rowOf (R := 2432) x0 x1 x2 x3 x4 r) j := by
  unfold rV
  rw [← grad_at x0 x1 x2 x3 x4 r j]
  unfold k0_pay13
  rw [ld_scales, ld_codes]
  pointwise [k0_pay6, rowOf]

theorem u_at (r : Fin 2432) (j : Fin 7168) :
    k0_pay8 (F := Ideal) (k0_pay12 x0 x1 x2 x3 x4) (k0_pay13 x0 x1 x2 x3 x4) (k0_pay14 x0 x1 x2 x3 x4) x2 (ix2 r j)
      = rU (rowOf (R := 2432) x0 x1 x2 x3 x4 r) j := by
  unfold rU
  rw [← m_at x0 x1 x2 x3 x4 r j, ← v_at x0 x1 x2 x3 x4 r j]
  pointwise [k0_pay8, k0_pay14, k0_pay7, rowOf]
  rw [named_bc1, named_bc2]

theorem w_at (r : Fin 2432) (j : Fin 7168) :
    k0_pay9 (F := Ideal) (k0_pay12 x0 x1 x2 x3 x4) (k0_pay13 x0 x1 x2 x3 x4) (k0_pay14 x0 x1 x2 x3 x4) x2 x2 (ix2 r j)
      = rW (rowOf (R := 2432) x0 x1 x2 x3 x4 r) j := by
  unfold rW
  rw [← u_at x0 x1 x2 x3 x4 r j]
  pointwise [k0_pay9, rowOf]

/-- The maximum along the last axis, at an index. -/
theorem max_at {A B C : ℕ} (x : FVec Ideal ⟨3, ![A, B, C]⟩ .f32) (h : (⟨3, ![A, B, C]⟩ : Shape).Reduces [2] ⟨2, ![A, B]⟩) (h1 h2) (r : Fin A) (q : Fin B) :
    multiReduction .maximumf [2] ⟨2, ![A, B]⟩ x 0xFF800000#32 h h1 h2 (ix2 r q) = Finset.univ.sup fun i : Fin C => x (ix3 r q i) := by
  rw [multiReduction_maximumf_eq_fold, Shape.Reduces.fold_fiber_r3_a2]
  exact fold_max _

/-- The absolute values of a row of groups, at an index. -/
theorem abs_at (w : FVec Ideal S2432x7168 .f32) (r : Fin 2432) (q : Fin 224) (i : Fin 32) :
    absf (shapeCast S2432x224x32 w shapeCasts_S2432x7168_S2432x224x32) (ix3 r q i) = max (w (ix2 r (col q i))) (-w (ix2 r (col q i))) := by
  have hc : ∀ h, (⟨q.val * 32 + i.val, h⟩ : Fin 7168) = col q i := fun h => Fin.ext (by unfold col; dsimp only; omega)
  pointwise
  rw [hc]
  rfl

/-- A row of groups at a column's group and place is the row at the column. -/
theorem group_at (w : FVec Ideal S2432x7168 .f32) (r : Fin 2432) (j : Fin 7168) (h h') :
    shapeCast S2432x224x32 w shapeCasts_S2432x7168_S2432x224x32 (ix3 r (⟨j.val / 32, h⟩ : Fin 224) (⟨j.val % 32, h'⟩ : Fin 32)) = w (ix2 r j) := by
  pointwise

/-- The exponent of a group, from its greatest absolute value. -/
theorem exp_of (x : FVec Ideal S2432x224 .f32) (r : Fin 2432) (q : Fin 224) :
    select (cmpf .olt (mulf x (broadcast S2432x224 (Scalar.ofBits .f32 0x3B124925#32))) (broadcast S2432x224 (Scalar.ofBits .f32 0x00800000#32)))
        (broadcast S2432x224 (Scalar.ofBits .f32 0x00000000#32))
        (addf (floor (divf (log (mulf x (broadcast S2432x224 (Scalar.ofBits .f32 0x3B124925#32))))
            (broadcast S2432x224 (Named.named (F := Ideal) (φ := .f32) κ "ln2" 0x3F317218#32)))) (broadcast S2432x224 (Scalar.ofBits .f32 0x3F800000#32))) (ix2 r q)
      = rExpF (x (ix2 r q) * Ideal.ofBits .f32 0x3B124925#32) := by
  unfold rExpF
  pointwise
  rw [named_ln2]

theorem exp_at (r : Fin 2432) (q : Fin 224) :
    k0_pay11 (F := Ideal) (k0_pay12 x0 x1 x2 x3 x4) (k0_pay13 x0 x1 x2 x3 x4) (k0_pay14 x0 x1 x2 x3 x4) x2 x2 (ix2 r q)
      = rExpF (rMax (rowOf (R := 2432) x0 x1 x2 x3 x4 r) q) := by
  unfold k0_pay11 k0_pay10
  refine (exp_of _ r q).trans (congrArg (fun z => rExpF (z * Ideal.ofBits .f32 0x3B124925#32)) ?_)
  refine (max_at _ _ _ _ r q).trans (congrArg Finset.univ.sup (funext fun i => ?_))
  rw [abs_at, w_at]

theorem byte_at (y : FVec Ideal S2432x224 .f32) (r : Fin 2432) (q : Fin 224) :
    k0_pay3 (F := Ideal) y (ix2 r q) = (Ideal.fptosi 32 (y (ix2 r q)) + 127#32).setWidth 8 := by
  pointwise [k0_pay3, k0_pay1]
  rfl

theorem code_at (z : FVec Ideal S2432x224x32 .f32) (y : FVec Ideal S2432x224 .f32) (r : Fin 2432) (j : Fin 7168) :
    k0_pay2 (F := Ideal) z y (ix2 r j)
      = min (Ideal.ofBits .f32 0x43E00000#32) (max (Ideal.ofBits .f32 0xC3E00000#32)
         (z (ix3 r (⟨j.val / 32, by omega⟩ : Fin 224) (⟨j.val % 32, by omega⟩ : Fin 32)) * rTwoTo (0#32 - Ideal.fptosi 32 (y (ix2 r (grp j)))))) := by
  unfold grp
  pointwise [k0_pay2, k0_pay1]
  simp only [two_to]
  rfl

end

theorem split2 {A B : ℕ} (y : (⟨2, ![A, B]⟩ : Shape).Idx) : y = ix2 (y 0) (y 1) := by
  funext a
  fin_cases a <;> rfl

variable (m : (ℓ : Loc nD τ sig) → Buf (Elt Ideal) ℓ)

/-- The row of the argument arrays. -/
def argRow (c : Dev nD) (r : Fin 2432) : Data :=
  rowOf (R := 2432) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r

theorem idx : win0_0.index t0_0 = ![0, 0, 0] ∧ win0_1.index t0_0 = ![0, 0, 0] ∧ win0_2.index t0_0 = ![0, 0] ∧ win0_3.index t0_0 = ![0, 0] ∧ win0_4.index t0_0 = ![0, 0] := by
  refine ⟨?_, ?_, ?_, ?_, ?_⟩ <;> decide +kernel

/-- Every input block is its whole array. -/
theorem blk0 (c : Dev nD) : iblk m c 0 t0_0 = m ((c.tc : Thread nD τ).loc main_arg0) := by funext i; blk_ext! [iblk, V, idx]
theorem blk1 (c : Dev nD) : iblk m c 1 t0_0 = m ((c.tc : Thread nD τ).loc main_arg1) := by funext i; blk_ext! [iblk, V, idx]
theorem blk2 (c : Dev nD) : iblk m c 2 t0_0 = m ((c.tc : Thread nD τ).loc main_arg2) := by funext i; blk_ext! [iblk, V, idx]
theorem blk3 (c : Dev nD) : iblk m c 3 t0_0 = m ((c.tc : Thread nD τ).loc main_arg3) := by funext i; blk_ext! [iblk, V, idx]
theorem blk4 (c : Dev nD) : iblk m c 4 t0_0 = m ((c.tc : Thread nD τ).loc main_arg4) := by funext i; blk_ext! [iblk, V, idx]

theorem out_w (x0 : Vec Ideal S16x2432x7168 .fp8e5m2) (x1 : Vec Ideal S16x2432x224 .i8) (x2 x3 x4 : Vec Ideal S2432x7168 .f32) (r : Fin 2432) (j : Fin 7168) :
    out0_5 (F := Ideal) x0 x1 x2 x3 x4 (ix2 r j) = rW (rowOf (R := 2432) x0 x1 x2 x3 x4 r) j := by
  unfold out0_5
  frame_out
  exact w_at x0 x1 x2 x3 x4 r j

/-- The reference's result: the weights. -/
theorem final_w (c : Dev nD) : (dats m 0 c).arrAt 5 (cfgs 0).N = ((fun i => rW (argRow m c (i 0)) (i 1)) : Vec Ideal S2432x7168 .f32) := by
  refine (dats m 0 c).arrAt_eq_of_after_last 5 t0_0 (by decide +kernel) _ fun y => ?_
  blk_simp
  rw [after0_5, blk0, blk1, blk2, blk3, blk4]
  have h : ∀ y : S2432x7168.Idx, _ = rW (argRow m c (y 0)) (y 1) := fun y =>
    (congrArg _ (split2 y)).trans (out_w _ _ _ _ _ (y 0) (y 1))
  exact h y

theorem out_m (x0 : Vec Ideal S16x2432x7168 .fp8e5m2) (x1 : Vec Ideal S16x2432x224 .i8) (x2 x3 x4 : Vec Ideal S2432x7168 .f32) (r : Fin 2432) (j : Fin 7168) :
    out0_6 (F := Ideal) x0 x1 x2 x3 x4 (ix2 r j) = rM (rowOf (R := 2432) x0 x1 x2 x3 x4 r) j := by
  unfold out0_6
  frame_out
  exact m_at x0 x1 x2 x3 x4 r j

/-- The reference's result: the first moment. -/
theorem final_m (c : Dev nD) : (dats m 0 c).arrAt 6 (cfgs 0).N = ((fun i => rM (argRow m c (i 0)) (i 1)) : Vec Ideal S2432x7168 .f32) := by
  refine (dats m 0 c).arrAt_eq_of_after_last 6 t0_0 (by decide +kernel) _ fun y => ?_
  blk_simp
  rw [after0_6, blk0, blk1, blk2, blk3, blk4]
  have h : ∀ y : S2432x7168.Idx, _ = rM (argRow m c (y 0)) (y 1) := fun y =>
    (congrArg _ (split2 y)).trans (out_m _ _ _ _ _ (y 0) (y 1))
  exact h y

theorem out_v (x0 : Vec Ideal S16x2432x7168 .fp8e5m2) (x1 : Vec Ideal S16x2432x224 .i8) (x2 x3 x4 : Vec Ideal S2432x7168 .f32) (r : Fin 2432) (j : Fin 7168) :
    out0_7 (F := Ideal) x0 x1 x2 x3 x4 (ix2 r j) = rV (rowOf (R := 2432) x0 x1 x2 x3 x4 r) j := by
  unfold out0_7
  frame_out
  exact v_at x0 x1 x2 x3 x4 r j

/-- The reference's result: the second moment. -/
theorem final_v (c : Dev nD) : (dats m 0 c).arrAt 7 (cfgs 0).N = ((fun i => rV (argRow m c (i 0)) (i 1)) : Vec Ideal S2432x7168 .f32) := by
  refine (dats m 0 c).arrAt_eq_of_after_last 7 t0_0 (by decide +kernel) _ fun y => ?_
  blk_simp
  rw [after0_7, blk0, blk1, blk2, blk3, blk4]
  have h : ∀ y : S2432x7168.Idx, _ = rV (argRow m c (y 0)) (y 1) := fun y =>
    (congrArg _ (split2 y)).trans (out_v _ _ _ _ _ (y 0) (y 1))
  exact h y

theorem out_u (x0 : Vec Ideal S16x2432x7168 .fp8e5m2) (x1 : Vec Ideal S16x2432x224 .i8) (x2 x3 x4 : Vec Ideal S2432x7168 .f32) (r : Fin 2432) (j : Fin 7168) :
    out0_8 (F := Ideal) x0 x1 x2 x3 x4 (ix2 r j) = rU (rowOf (R := 2432) x0 x1 x2 x3 x4 r) j := by
  unfold out0_8
  frame_out
  exact u_at x0 x1 x2 x3 x4 r j

/-- The reference's result: the update. -/
theorem final_u (c : Dev nD) : (dats m 0 c).arrAt 8 (cfgs 0).N = ((fun i => rU (argRow m c (i 0)) (i 1)) : Vec Ideal S2432x7168 .f32) := by
  refine (dats m 0 c).arrAt_eq_of_after_last 8 t0_0 (by decide +kernel) _ fun y => ?_
  blk_simp
  rw [after0_8, blk0, blk1, blk2, blk3, blk4]
  have h : ∀ y : S2432x7168.Idx, _ = rU (argRow m c (y 0)) (y 1) := fun y =>
    (congrArg _ (split2 y)).trans (out_u _ _ _ _ _ (y 0) (y 1))
  exact h y

theorem out_code (x0 : Vec Ideal S16x2432x7168 .fp8e5m2) (x1 : Vec Ideal S16x2432x224 .i8) (x2 x3 x4 : Vec Ideal S2432x7168 .f32) (r : Fin 2432) (j : Fin 7168) :
    out0_9 (F := Ideal) x0 x1 x2 x3 x4 (ix2 r j) = rCode (rowOf (R := 2432) x0 x1 x2 x3 x4 r) j := by
  unfold out0_9
  frame_out
  rw [code_at]
  unfold k0_pay15
  rw [ld_row, exp_at]
  unfold rCode rExp k0_pay10
  rw [group_at, w_at]

/-- The reference's result: the codes. -/
theorem final_code (c : Dev nD) : (dats m 0 c).arrAt 9 (cfgs 0).N = ((fun i => rCode (argRow m c (i 0)) (i 1)) : Vec Ideal S2432x7168 .fp8e4m3) := by
  refine (dats m 0 c).arrAt_eq_of_after_last 9 t0_0 (by decide +kernel) _ fun y => ?_
  blk_simp
  rw [after0_9, blk0, blk1, blk2, blk3, blk4]
  have h : ∀ y : S2432x7168.Idx, _ = rCode (argRow m c (y 0)) (y 1) := fun y =>
    (congrArg _ (split2 y)).trans (out_code _ _ _ _ _ (y 0) (y 1))
  exact h y

theorem out_byte (x0 : Vec Ideal S16x2432x7168 .fp8e5m2) (x1 : Vec Ideal S16x2432x224 .i8) (x2 x3 x4 : Vec Ideal S2432x7168 .f32) (r : Fin 2432) (j : Fin 224) :
    out0_10 (F := Ideal) x0 x1 x2 x3 x4 (ix2 r j) = rByte (rowOf (R := 2432) x0 x1 x2 x3 x4 r) j := by
  unfold out0_10
  frame_out
  rw [byte_at]
  unfold k0_pay15
  rw [ld_row, exp_at]
  rfl

/-- The reference's result: the scale bytes. -/
theorem final_byte (c : Dev nD) : (dats m 0 c).arrAt 10 (cfgs 0).N = ((fun i => rByte (argRow m c (i 0)) (i 1)) : Vec Ideal S2432x224 .i8) := by
  refine (dats m 0 c).arrAt_eq_of_after_last 10 t0_0 (by decide +kernel) _ fun y => ?_
  blk_simp
  rw [after0_10, blk0, blk1, blk2, blk3, blk4]
  have h : ∀ y : S2432x224.Idx, _ = rByte (argRow m c (y 0)) (y 1) := fun y =>
    (congrArg _ (split2 y)).trans (out_byte _ _ _ _ _ (y 0) (y 1))
  exact h y

end Cert.Proof.RefArrays

end
-- ==== Proof.Consts.lean ====
/-
  The real values of the kernel's and the reference's float constants.
-/
module

public import Idealize.ShloMosaic.PureOps.Ideal

@[expose] public section

noncomputable section

namespace Cert.Proof.Consts

open Idealize.ShloMosaic

/-- The decay of the first moment. -/
theorem beta1 : Ideal.ofBits .f32 0x3F666666#32 = ((7549747 / 2 ^ 23 : ℝ) : EReal) := by
  simp [Ideal.ofBits, Ideal.ieee, -EReal.coe_mul]
  try norm_num

/-- Its complement, and the weight decay. -/
theorem gain1 : Ideal.ofBits .f32 0x3DCCCCCD#32 = ((13421773 / 2 ^ 27 : ℝ) : EReal) := by
  simp [Ideal.ofBits, Ideal.ieee, -EReal.coe_mul]
  try norm_num

/-- The decay of the second moment. -/
theorem beta2 : Ideal.ofBits .f32 0x3F733333#32 = ((15938355 / 2 ^ 24 : ℝ) : EReal) := by
  simp [Ideal.ofBits, Ideal.ieee, -EReal.coe_mul]
  try norm_num

/-- Its complement. -/
theorem gain2 : Ideal.ofBits .f32 0x3D4CCCCD#32 = ((13421773 / 2 ^ 28 : ℝ) : EReal) := by
  simp [Ideal.ofBits, Ideal.ieee, -EReal.coe_mul]
  try norm_num

/-- The learning rate. -/
theorem lr : Ideal.ofBits .f32 0x3A83126F#32 = ((8589935 / 2 ^ 33 : ℝ) : EReal) := by
  simp [Ideal.ofBits, Ideal.ieee, -EReal.coe_mul]
  try norm_num

/-- The guard of the quotient. -/
theorem eps : Ideal.ofBits .f32 0x322BCC77#32 = ((11258999 / 2 ^ 50 : ℝ) : EReal) := by
  simp [Ideal.ofBits, Ideal.ieee, -EReal.coe_mul]
  try norm_num

/-- The reciprocal of 448. -/
theorem inv448 : Ideal.ofBits .f32 0x3B124925#32 = ((9586981 / 2 ^ 32 : ℝ) : EReal) := by
  simp [Ideal.ofBits, Ideal.ieee, -EReal.coe_mul]
  try norm_num

/-- The greatest code. -/
theorem c448 : Ideal.ofBits .f32 0x43E00000#32 = ((448 : ℝ) : EReal) := by
  simp [Ideal.ofBits, Ideal.ieee, -EReal.coe_mul]
  try norm_num

/-- 1 / 16. -/
theorem sixteenth : Ideal.ofBits .f32 0x3D800000#32 = ((1 / 2 ^ 4 : ℝ) : EReal) := by
  simp [Ideal.ofBits, Ideal.ieee, -EReal.coe_mul]
  try norm_num

/-- 16. -/
theorem sixteen : Ideal.ofBits .f32 0x41800000#32 = ((16 : ℝ) : EReal) := by
  simp [Ideal.ofBits, Ideal.ieee, -EReal.coe_mul]
  try norm_num

/-- The least normal number. -/
theorem tiny : Ideal.ofBits .f32 0x00800000#32 = ((1 / 2 ^ 126 : ℝ) : EReal) := by
  simp [Ideal.ofBits, Ideal.ieee, -EReal.coe_mul]
  try norm_num

/-- 1. -/
theorem one : Ideal.ofBits .f32 0x3F800000#32 = ((1 : ℝ) : EReal) := by
  simp [Ideal.ofBits, Ideal.ieee, -EReal.coe_mul]
  try norm_num

end Cert.Proof.Consts

end
-- ==== Proof.Step.lean ====
/-
  The Adam step of the kernel and of the reference agree on every row: a scale byte names the same number in both, a
  sixteenth of the sum is the sum over 16, and the reciprocals of the bias corrections divide by them.
-/
module

public import proofs.«01_k».proof.Proof.RefRow
public import proofs.«01_k».proof.Proof.Consts

@[expose] public section

noncomputable section

namespace Cert.Proof.Step

open Idealize.ShloMosaic Cert.Proof.Row Cert.Proof.RefRow

/-- The sign, exponent and fraction of a scale's bf16. -/
theorem fields : ∀ b : Fin 256, (scaleBits (BitVec.ofFin b)).extractLsb' 15 1 = 0#1 ∧ ((scaleBits (BitVec.ofFin b)).extractLsb' 7 8).toNat = b.val
    ∧ ((scaleBits (BitVec.ofFin b)).extractLsb' 0 7).toNat = 0 := by decide +kernel

/-- The exponent that a scale byte names. -/
theorem exponent : ∀ b : Fin 256, ((BitVec.ofFin b : BitVec 8).setWidth 32 - 127#32).toInt = (b.val : ℤ) - 127 := by decide +kernel

/-- `2 ^ e` as the reference states it, by the exponent's value. -/
theorem rTwoTo_eq (e : BitVec 32) : rTwoTo e = if 127 < e.toInt then ⊤ else if e.toInt < -126 then 0 else (((2 : ℝ) ^ e.toInt : ℝ) : EReal) := by
  have h1 : (127#32).slt e = decide (127 < e.toInt) := by simp [BitVec.slt]
  have h2 : e.slt 4294967170#32 = decide (e.toInt < -126) := by simp [BitVec.slt]
  have h3 : Ideal.ofBits .f32 0x7F800000#32 = ⊤ := by simp [Ideal.ofBits, Ideal.ieee]
  have h4 : Ideal.ofBits .f32 0x00000000#32 = 0 := by simp [Ideal.ofBits, Ideal.ieee]
  unfold rTwoTo
  rw [h1, h2, h3, h4, Ideal.exp2_coe]
  have h5 : Real.rpow 2 (e.toInt : ℝ) = (2 : ℝ) ^ e.toInt := Real.rpow_intCast 2 e.toInt
  rw [h5]
  simp only [decide_eq_true_eq]

theorem scale_eq (b : BitVec 8) : kScale b = rScale b := by
  obtain ⟨b⟩ := b
  obtain ⟨f1, f2, f3⟩ := fields b
  have hb := b.isLt
  unfold rScale kScale
  rw [rTwoTo_eq, exponent]
  show Ideal.ieee 8 7 _ = _
  unfold Ideal.ieee
  simp only [Nat.reduceAdd, f1, f2, f3]
  clear f1 f2 f3
  generalize (b : ℕ) = n at hb ⊢
  norm_num [-EReal.coe_mul]
  by_cases h : n = 255
  · rw [if_pos h, if_pos (by omega)]
  rw [if_neg h]
  by_cases h0 : n = 0
  · rw [if_pos h0, if_neg (by omega), if_pos (by omega)]
  rw [if_neg h0, if_neg (by omega), if_neg (by omega)]
  refine congrArg _ ?_
  rw [show (128 : ℝ) = (2 : ℝ) ^ (7 : ℤ) by norm_num, ← zpow_add₀ (by norm_num)]
  congr 1; ring

variable (D : Data)

theorem g_eq (j : Fin 7168) : kG D j = rG D j := by
  unfold kG rG
  rw [Consts.sixteen, Ideal.div_coe (by norm_num), Consts.sixteenth]
  simp only [scale_eq]
  norm_num

theorem m_eq (j : Fin 7168) : kM D j = rM D j := by unfold kM rM; rw [g_eq]
theorem v_eq (j : Fin 7168) : kV D j = rV D j := by unfold kV rV; rw [g_eq]

theorem u_eq (j : Fin 7168) : kU D j = rU D j := by
  have h1 : ∀ x, Ideal.div x bc1 = x * invBc1 := fun x => by
    unfold bc1 invBc1
    rw [Ideal.div_coe (by norm_num)]
    norm_num
  have h2 : ∀ x, Ideal.div x bc2 = x * invBc2 := fun x => by
    unfold bc2 invBc2
    rw [Ideal.div_coe (by norm_num)]
    norm_num
  unfold kU rU
  rw [m_eq, v_eq, h1, h2]

theorem w_eq (j : Fin 7168) : kW D j = rW D j := by unfold kW rW; rw [u_eq]

/-- Scaling by a positive number commutes with the greatest of a group. -/
theorem max_eq (q : Fin 224) : kMax D q = rMax D q := by
  unfold kMax rMax kA
  simp only [w_eq]
  rw [Consts.inv448]
  symm
  refine Finset.comp_sup_eq_sup_comp_of_is_total (fun x : EReal => x * ((_ : ℝ) : EReal)) ?_ ?_
  · intro a b h
    exact mul_le_mul_of_nonneg_right h (by norm_cast; norm_num)
  · exact EReal.bot_mul_coe_of_pos (by norm_num)

end Cert.Proof.Step

end
-- ==== Proof.Quant.lean ====
/-
  The quantiser: for a nonnegative number below `2 ^ 127` the exponent that the kernel reads off the bit pattern is the one
  that the reference takes by a logarithm, and the scale byte and the reciprocal scale agree.
-/
module

public import proofs.«01_k».proof.Proof.Step

@[expose] public section

noncomputable section

namespace Cert.Proof.Quant

open Idealize.ShloMosaic Cert.Proof.Row Cert.Proof.RefRow Cert.Proof.Pattern

/-- The floor of the binary logarithm of a number in the binade of `k`. -/
theorem floor_log (r : ℝ) (k : ℤ) (h1 : (2 : ℝ) ^ k ≤ r) (h2 : r < (2 : ℝ) ^ (k + 1)) : ⌊Real.log r / Real.log 2⌋ = k := by
  have hr : 0 < r := (two_zpow_pos k).trans_le h1
  have hl : 0 < Real.log 2 := Real.log_pos (by norm_num)
  rw [Int.floor_eq_iff]
  constructor
  · rw [le_div_iff₀ hl, ← Real.log_zpow]
    exact Real.log_le_log (two_zpow_pos k) h1
  · rw [div_lt_iff₀ hl]
    have := Real.log_lt_log hr h2
    rw [Real.log_zpow] at this
    exact_mod_cast this

/-- The reference's exponent, as a word. -/
def expWord (E : ℕ) : BitVec 32 := if E = 0 then 0#32 else BitVec.ofInt 32 ((E : ℤ) - 126)

theorem exp_eq (r : ℝ) (h0 : 0 ≤ r) (h : r < (2 : ℝ) ^ (127 : ℤ)) : Ideal.fptosi 32 (rExpF r) = expWord (expo r) := by
  have hE := expo_le_of_lt r h0 h
  have hlt := lt_of_expo r h0 (by omega)
  have htiny : (1 / 2 ^ 126 : ℝ) = (2 : ℝ) ^ (-126 : ℤ) := by norm_num
  have hz : Ideal.ofBits .f32 0x00000000#32 = ((0 : ℝ) : EReal) := by simp [Ideal.ofBits, Ideal.ieee]
  unfold rExpF expWord
  rw [Consts.tiny, Consts.one, htiny, hz]
  by_cases hE0 : expo r = 0
  · rw [hE0] at hlt
    rw [if_pos (by exact_mod_cast hlt), if_pos hE0]
    rw [Ideal.fptosi, Ideal.toIntClamped_coe]
    norm_num
  · have hle := le_of_expo r h0 hE0
    have hpos : 0 < r := (two_zpow_pos _).trans_le hle
    have hge : (2 : ℝ) ^ (-126 : ℤ) ≤ r := le_trans (zpow_le_zpow_right₀ (by norm_num) (by omega)) hle
    have hl : Real.log 2 ≠ 0 := (Real.log_pos (by norm_num)).ne'
    rw [if_neg (by exact_mod_cast not_lt.mpr hge), if_neg hE0, Ideal.log_coe, if_neg (not_le.mpr hpos), Ideal.div_coe hl]
    rw [← EReal.coe_mul, Ideal.liftRound_coe, mul_one_div, floor_log r ((expo r : ℤ) - 127) hle (by
      rw [show (expo r : ℤ) - 127 + 1 = (expo r : ℤ) - 126 by ring]; exact hlt), ← EReal.coe_add]
    have hr : ((((expo r : ℤ) - 127 : ℤ) : ℝ) + 1 : ℝ) = (((expo r : ℤ) - 126 : ℤ) : ℝ) := by push_cast; ring
    rw [hr, Ideal.fptosi, Ideal.toIntClamped_coe, Int.floor_intCast, Int.ceil_intCast, ite_self]
    congr 1
    norm_num
    omega

/-- The words of an exponent: the reference's byte is the kernel's, the exponent of the reciprocal, the kernel's pattern of it. -/
theorem words : ∀ E : Fin 254, (expWord E.val + 127#32).setWidth 8 = (BitVec.ofNat 32 (byteOf E.val)).setWidth 8
    ∧ (0#32 - expWord E.val).toInt = (if E.val = 0 then 0 else 126 - (E.val : ℤ))
    ∧ ((254#32 - BitVec.ofNat 32 (byteOf E.val)) <<< 23).toNat = (if E.val = 0 then 127 else 253 - E.val) * 2 ^ 23 := by decide +kernel

/-- The reciprocal scale. -/
theorem inv_eq (E : ℕ) (h : E ≤ 253) :
    Ideal.ofBits .f32 ((254#32 - BitVec.ofNat 32 (byteOf E)) <<< 23) = rTwoTo (0#32 - expWord E) := by
  have hw := words ⟨E, Nat.lt_succ_of_le h⟩
  have h2 : (0#32 - expWord E).toInt = (if E = 0 then 0 else 126 - (E : ℤ)) := hw.2.1
  have h3 : ((254#32 - BitVec.ofNat 32 (byteOf E)) <<< 23).toNat = (if E = 0 then 127 else 253 - E) * 2 ^ 23 := hw.2.2
  clear hw
  generalize (254#32 - BitVec.ofNat 32 (byteOf E)) <<< 23 = c at h3 ⊢
  generalize 0#32 - expWord E = e at h2 ⊢
  rw [Step.rTwoTo_eq, h2, ofBits_eq c (by rw [h3]; split <;> omega), h3]
  unfold pv
  by_cases h0 : E = 0
  · rw [if_pos h0, if_pos h0, val_binade _ (by norm_num)]
    norm_num
  rw [if_neg h0, if_neg h0, if_pos (by omega)]
  by_cases h1 : E = 253
  · subst h1
    rw [if_neg (by norm_num), if_pos (by norm_num), show (253 - 253) * 2 ^ 23 = 0 by norm_num, val_zero]
    rfl
  rw [val_binade _ (by omega), if_neg (by omega), if_neg (by omega)]
  congr 2
  omega

variable (D : Data) (hA : ∀ j, ∃ r : ℝ, kA D j = r ∧ 0 ≤ r ∧ r < (2 : ℝ) ^ (127 : ℤ))
include hA

/-- The greatest of a group is one of the group. -/
theorem max_real (q : Fin 224) : ∃ r : ℝ, kMax D q = r ∧ 0 ≤ r ∧ r < (2 : ℝ) ^ (127 : ℤ) := by
  obtain ⟨i, -, h⟩ := Finset.exists_mem_eq_sup (Finset.univ : Finset (Fin 32)) ⟨0, Finset.mem_univ _⟩ fun i => kA D (col q i)
  unfold kMax
  rw [h]
  exact hA _

theorem rExp_eq (q : Fin 224) : rExp D q = expWord (expo (kMax D q)) ∧ expo (kMax D q) ≤ 253 := by
  obtain ⟨r, h, h0, h1⟩ := max_real D hA q
  unfold rExp
  rw [← Step.max_eq, h]
  exact ⟨exp_eq r h0 h1, expo_le_of_lt r h0 h1⟩

theorem byte_eq (q : Fin 224) : (kByte D q).setWidth 8 = rByte D q := by
  obtain ⟨h, h1⟩ := rExp_eq D hA q
  unfold rByte kByte
  rw [h]
  exact ((words ⟨_, Nat.lt_succ_of_le h1⟩).1).symm

theorem code_eq (j : Fin 7168) : kCode D j = rCode D j := by
  obtain ⟨h, h1⟩ := rExp_eq D hA (grp j)
  unfold kCode rCode kByte
  rw [h, inv_eq _ h1, Step.w_eq]

end Cert.Proof.Quant

end
-- ==== Proof.Bound.lean ====
/-
  Under the precondition a new weight is a real number far below the largest float: the quotient of the step is bounded,
  because a large gradient is divided by the root of its own square.
-/
module

public import proofs.«01_k».proof.Proof.Quant

@[expose] public section

noncomputable section

namespace Cert.Proof.Bound

open Idealize.ShloMosaic Cert.Proof.Row

/-- A number over plus infinity is zero. -/
theorem div_top (x : EReal) : Ideal.div x ⊤ = 0 := by
  unfold Ideal.div
  rw [if_neg EReal.top_ne_zero, EReal.inv_top, mul_zero]

/-- The denominator of a second moment that is plus infinity. -/
theorem den_top {x : EReal} (h : x = ⊤) : Ideal.sqrt (x * invBc2) + Ideal.ofBits .f32 0x322BCC77#32 = ⊤ := by
  unfold invBc2
  rw [h, EReal.top_mul_coe_of_pos (by norm_num), Ideal.sqrt_top, Consts.eps]
  exact EReal.top_add_coe _

/-- The quotient of reals is a real. -/
theorem quot_coe (n y e : ℝ) (hy : 0 ≤ y) (he : 0 < e) : Ideal.div (n : EReal) (Ideal.sqrt (y : EReal) + (e : EReal)) = ((n * (1 / (√y + e)) : ℝ) : EReal) := by
  have hs := Real.sqrt_nonneg y
  rw [Ideal.sqrt_coe, if_neg (not_lt.mpr hy), ← EReal.coe_add, Ideal.div_coe (by linarith), ← EReal.coe_mul]

/-- The quotient over the reals. -/
theorem quot_real (m v g : ℝ) (hm : |m| ≤ 2 ^ 100) (hv : 0 ≤ v) (b1 c1 i1 b2 c2 i2 e : ℝ) (h1 : 0 ≤ b1 * i1) (h1' : b1 * i1 ≤ 2) (h2 : 0 ≤ c1 * i1)
    (h2' : c1 * i1 ≤ 1) (h3 : 0 ≤ b2 * i2) (h4 : 1 / 64 ≤ c2 * i2) (h5 : 1 / 2 ^ 27 ≤ e) :
    |(b1 * m + c1 * g) * i1 * (1 / (√((b2 * v + c2 * (g * g)) * i2) + e))| ≤ 2 ^ 128 := by
  have hy : (g / 8) ^ 2 ≤ (b2 * v + c2 * (g * g)) * i2 := by
    have ha : 0 ≤ (b2 * i2) * v := mul_nonneg h3 hv
    have hb : 1 / 64 * (g * g) ≤ (c2 * i2) * (g * g) := mul_le_mul_of_nonneg_right h4 (mul_self_nonneg g)
    nlinarith
  have hs := Real.abs_le_sqrt hy
  rw [abs_div, abs_of_pos (by norm_num : (0 : ℝ) < 8)] at hs
  generalize √((b2 * v + c2 * (g * g)) * i2) = s at hs ⊢
  have he : 0 < e := lt_of_lt_of_le (by positivity) h5
  have hg := abs_nonneg g
  have hd : 0 < s + e := by linarith
  have hn : |(b1 * m + c1 * g) * i1| ≤ 2 * 2 ^ 100 + |g| := by
    have hq : (b1 * m + c1 * g) * i1 = b1 * i1 * m + c1 * i1 * g := by ring
    rw [hq]
    refine (abs_add_le _ _).trans ?_
    rw [abs_mul, abs_mul (c1 * i1), abs_of_nonneg h1, abs_of_nonneg h2]
    exact add_le_add (mul_le_mul h1' hm (abs_nonneg _) (by norm_num)) ((mul_le_mul_of_nonneg_right h2' hg).trans (one_mul _).le)
  rw [mul_one_div, abs_div, abs_of_pos hd, div_le_iff₀ hd]
  refine hn.trans ?_
  have h6 : (2 : ℝ) ^ 128 * (1 / 2 ^ 27) ≤ 2 ^ 128 * e := mul_le_mul_of_nonneg_left h5 (by positivity)
  have h7 : 8 * s ≤ 2 ^ 128 * s := mul_le_mul_of_nonneg_right (by norm_num) (by linarith)
  norm_num at h6 h7 ⊢
  linarith

variable (D : Data) (j : Fin 7168) (hw : ∃ r : ℝ, D.master j = r ∧ |r| ≤ 2 ^ 100) (hm : ∃ r : ℝ, D.m j = r ∧ |r| ≤ 2 ^ 100) (hv : 0 ≤ D.v j)

/-- The quotient of the step. -/
def quot : EReal := Ideal.div (kM D j * invBc1) (Ideal.sqrt (kV D j * invBc2) + Ideal.ofBits .f32 0x322BCC77#32)

include hm hv in
theorem quot_bound : ∃ r : ℝ, quot D j = r ∧ |r| ≤ 2 ^ 128 := by
  have htop : kV D j = ⊤ → ∃ r : ℝ, quot D j = r ∧ |r| ≤ 2 ^ 128 := fun h => ⟨0, by
    unfold quot; rw [den_top h, div_top]; rfl, by norm_num⟩
  obtain ⟨m, hm, hmb⟩ := hm
  have hbv : 0 ≤ Ideal.ofBits .f32 0x3F733333#32 * D.v j := by
    rw [Consts.beta2]
    exact mul_nonneg (by norm_cast; norm_num) hv
  have hinf : kG D j * kG D j = ⊤ → kV D j = ⊤ := fun h => by
    unfold kV
    rw [h, Consts.gain2, EReal.coe_mul_top_of_pos (by norm_num)]
    exact EReal.add_top_of_ne_bot (ne_of_gt (lt_of_lt_of_le EReal.bot_lt_zero hbv))
  have hreal : ∀ g : ℝ, kG D j = g → ∃ r : ℝ, quot D j = r ∧ |r| ≤ 2 ^ 128 := fun g hg => by
    by_cases hvt : D.v j = ⊤
    · refine htop ?_
      unfold kV
      rw [hvt, hg, Consts.beta2, Consts.gain2, EReal.coe_mul_top_of_pos (by norm_num), ← EReal.coe_mul, ← EReal.coe_mul]
      exact EReal.top_add_coe _
    lift D.v j to ℝ using ⟨hvt, ne_of_gt (lt_of_lt_of_le EReal.bot_lt_zero hv)⟩ with v hve
    have hv' : 0 ≤ v := by exact_mod_cast hv
    refine ⟨_, ?_, quot_real m v g hmb hv' (7549747 / 2 ^ 23) (13421773 / 2 ^ 27) (100000000000000000000 / 87842334540943071199) (15938355 / 2 ^ 24)
      (13421773 / 2 ^ 28) (104857600000000000000000000 / 67267626542454041806644399) (11258999 / 2 ^ 50) (by norm_num) (by norm_num) (by norm_num)
      (by norm_num) (by norm_num) (by norm_num) (by norm_num)⟩
    unfold quot kM kV
    rw [hm, hg, ← hve, Consts.beta1, Consts.gain1, Consts.beta2, Consts.gain2, Consts.eps]
    unfold invBc1 invBc2
    simp only [← EReal.coe_mul, ← EReal.coe_add]
    exact quot_coe _ _ _ (mul_nonneg (add_nonneg (mul_nonneg (by norm_num) hv') (mul_nonneg (by norm_num) (mul_self_nonneg g))) (by norm_num)) (by norm_num)
  induction hg : kG D j using EReal.rec with
  | bot => exact htop (hinf (by rw [hg]; rfl))
  | top => exact htop (hinf (by rw [hg]; rfl))
  | coe g => exact hreal g hg

include hw hm hv in
/-- A new weight's absolute value over 448 is a real number below `2 ^ 127`. -/
theorem a_bound : ∃ r : ℝ, kA D j = r ∧ 0 ≤ r ∧ r < (2 : ℝ) ^ (127 : ℤ) := by
  obtain ⟨q, hq, hqb⟩ := quot_bound D j hm hv
  obtain ⟨w, hw, hwb⟩ := hw
  have hk : kU D j = ((8589935 / 2 ^ 33 * (q + 13421773 / 2 ^ 27 * w) : ℝ) : EReal) := by
    have h : kU D j = Ideal.ofBits .f32 0x3A83126F#32 * (quot D j + Ideal.ofBits .f32 0x3DCCCCCD#32 * D.master j) := rfl
    rw [h, hq, hw, Consts.lr, Consts.gain1]
    simp only [← EReal.coe_mul, ← EReal.coe_add]
  have hx : kW D j = ((w - 8589935 / 2 ^ 33 * (q + 13421773 / 2 ^ 27 * w) : ℝ) : EReal) := by
    unfold kW
    rw [hk, hw, ← EReal.coe_sub]
  refine ⟨|w - 8589935 / 2 ^ 33 * (q + 13421773 / 2 ^ 27 * w)| * (9586981 / 2 ^ 32), ?_, mul_nonneg (abs_nonneg _) (by norm_num), ?_⟩
  · unfold kA
    rw [hx, Consts.inv448, ← EReal.coe_neg, EReal.coe_mul]
    congr 1
  · have hb : |w - 8589935 / 2 ^ 33 * (q + 13421773 / 2 ^ 27 * w)| ≤ 2 ^ 126 := by
      rw [abs_le] at hqb hwb ⊢
      norm_num at hqb hwb ⊢
      constructor <;> linarith [hqb.1, hqb.2, hwb.1, hwb.2]
    have h127 : ((2 : ℝ) ^ (127 : ℤ)) = 2 ^ 127 := by norm_cast
    rw [h127]
    norm_num at hb ⊢
    linarith

end Cert.Proof.Bound

end
-- ==== Proof.Precondition.lean ====
/-
  The precondition at an element: the weights and the first moment are real numbers of absolute value at most `2 ^ 100`,
  the second moment is not negative.
-/
module

public import proofs.«01_k».proof.Pre_no_overflow
public import Idealize.ShloMosaic.Lib.ReduceAll
public import Idealize.ShloMosaic.Lib.Pointwise

@[expose] public section

noncomputable section

namespace Cert.Proof.Precondition

open Cert.Pre_no_overflow Idealize.ShloMosaic

/-- The shape relations that the precondition's printed text asks. -/
theorem facts : Cert.Pre_no_overflow.Facts := ⟨by decide, by decide, by decide⟩

/-- A number of absolute value at most a real is a real. -/
theorem real_of_abs {x : EReal} {b : ℝ} (h : max x (-x) ≤ (b : EReal)) : ∃ r : ℝ, x = r ∧ |r| ≤ b := by
  obtain ⟨h1, h2⟩ := max_le_iff.mp h
  induction x using EReal.rec with
  | bot => exact absurd h2 (not_le.mpr (EReal.coe_lt_top b))
  | top => exact absurd h1 (not_le.mpr (EReal.coe_lt_top b))
  | coe r => exact ⟨r, rfl, abs_le'.mpr ⟨by exact_mod_cast h1, by exact_mod_cast h2⟩⟩

/-- The bound's word is `2 ^ 100`. -/
theorem limit : Ideal.ofBits .f32 0x71800000#32 = ((2 ^ 100 : ℝ) : EReal) := by
  simp [Ideal.ofBits, Ideal.ieee, -EReal.coe_mul, -EReal.coe_pow]
  norm_num

/-- The zero word is zero. -/
theorem zero : Ideal.ofBits .f32 0x00000000#32 = 0 := by simp [Ideal.ofBits, Ideal.ieee]

instance : Subsingleton S_.Idx := ⟨fun a b => funext fun i => i.elim0⟩

/-- A condition whose truth word is one holds. -/
theorem ofBool_one {p : Prop} [Decidable p] (h : BitVec.ofBool (decide p) = 1#1) : p := by
  by_contra hc
  rw [decide_eq_false hc] at h
  exact absurd h (by decide)

variable (x0 : FVec Ideal S16x2432x7168 .fp8e5m2) (x1 : IVec S16x2432x224 8) (x2 x3 x4 : FVec Ideal S2432x7168 .f32)

/-- The precondition read at an index. -/
theorem elements (hF : Cert.Pre_no_overflow.Facts) (h : fn (F := Ideal) x0 x1 x2 x3 x4 = fun _ => 1#1) (i : S2432x7168.Idx) :
    (∃ r : ℝ, x2 i = r ∧ |r| ≤ 2 ^ 100) ∧ (∃ r : ℝ, x3 i = r ∧ |r| ≤ 2 ^ 100) ∧ 0 ≤ x4 i := by
  have e := congrFun h (fun a => a.elim0)
  unfold fn at e
  obtain ⟨e1, e4⟩ := IntOp.andi_eq_one.mp e
  obtain ⟨e2, e3⟩ := IntOp.andi_eq_one.mp e1
  have k2 := Host.reduce_andi_all _ _ _ _ _ e2 i
  have k3 := Host.reduce_andi_all _ _ _ _ _ e3 i
  have k4 := Host.reduce_andi_all _ _ _ _ _ e4 i
  refine ⟨real_of_abs ?_, real_of_abs ?_, ?_⟩
  · rw [← limit]; exact ofBool_one k2
  · rw [← limit]; exact ofBool_one k3
  · rw [← zero]; exact ofBool_one k4

end Cert.Proof.Precondition

end
-- ==== Proof.Algebraic.lean ====
/-
  The idealized kernel and the idealized reference leave the same six results, from arguments that satisfy the precondition.
-/
module

public import proofs.«01_k».proof.Defs
public import proofs.«01_k».proof.Proof.KernelArrays
public import proofs.«01_k».proof.Proof.RefArrays
public import proofs.«01_k».proof.Proof.Quant
public import proofs.«01_k».proof.Proof.Bound
public import proofs.«01_k».proof.Proof.Precondition

@[expose] public section

set_option maxRecDepth 16384

noncomputable section

namespace Cert.Proof.Algebraic

open Cert.Proof.Row Cert.Proof.RefRow Cert.Proof.Columns
open Idealize.ShloMosaic Idealize.ShloMosaic.TcCoe Idealize.SL.Sem

/-- Every row that the precondition admits has quotients `|w| / 448` that are reals in `[0, 2 ^ 127)`. -/
theorem bounded (m : (ℓ : Loc Cert.KernelIdeal.nD Cert.KernelIdeal.τ Cert.KernelIdeal.sig) → Buf (Elt Ideal) ℓ)
    (hP : Cert.Pre_KernelIdeal_no_overflow (hPre_no_overflow := Precondition.facts) m) (c : Dev Cert.KernelIdeal.nD) (r : Fin 2432) (j : Fin 7168) :
    ∃ x : ℝ, kA (KernelArrays.argRow m c r) j = x ∧ 0 ≤ x ∧ x < (2 : ℝ) ^ (127 : ℤ) := by
  obtain ⟨h2, h3, h4⟩ := Precondition.elements _ _ _ _ _ Precondition.facts (hP c) (ix2 r j)
  exact Bound.a_bound _ j h2 h3 h4

/-- The rows of the two programs' arguments are the same where the arguments are. -/
theorem rows (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (r : Fin 2432) : RefArrays.argRow m' c r = KernelArrays.argRow m c r := by
  obtain ⟨h0, h1, h2, h3, h4⟩ := h
  unfold RefArrays.argRow KernelArrays.argRow
  rw [h0, h1, h2, h3, h4]

set_option backward.isDefEq.respectTransparency.types false in
/-- Each program's run leaves its row functions, and the row functions agree. -/
theorem algebraic : Cert.algebraic_KernelIdeal_ReferenceIdeal_pre_no_overflow (hKernelIdeal := Cert.KernelIdeal.Gen.facts)
    (hReferenceIdeal := Cert.ReferenceIdeal.Gen.facts) (hPre_no_overflow := Precondition.facts) := by
  intro m g m' g' hP hargs
  have hA := bounded m hP
  have hR := fun c r => rows m m' c (hargs c) r
  refine ⟨fun c i => kW (KernelArrays.argRow m c (i 0)) (i 1), fun c i => kM (KernelArrays.argRow m c (i 0)) (i 1),
    fun c i => kV (KernelArrays.argRow m c (i 0)) (i 1), fun c i => kU (KernelArrays.argRow m c (i 0)) (i 1),
    fun c i => kCode (KernelArrays.argRow m c (i 0)) (i 1), fun c i => (kByte (KernelArrays.argRow m c (i 0)) (i 1)).setWidth 8, ?_, ?_⟩
  · refine (θ_run Cert.KernelIdeal.defs _ _).mono (fun _ h c => ⟨((h.1 c).1 5).trans (KernelArrays.final_w m c), ((h.1 c).1 6).trans (KernelArrays.final_m m c),
      ((h.1 c).1 7).trans (KernelArrays.final_v m c), ((h.1 c).1 8).trans (KernelArrays.final_u m c), ((h.1 c).1 9).trans (KernelArrays.final_code m c),
      ((h.1 c).1 10).trans (KernelArrays.final_byte m c),
      ((h.1 c).1 0).trans (((KernelIdealRun.dats m 0 c).arrAt_in 0 rfl _).trans ((KernelIdealRun.A_eq m c 0).trans (Cert.KernelIdeal.Gen.V_main_arg0 m c))),
      ((h.1 c).1 1).trans (((KernelIdealRun.dats m 0 c).arrAt_in 1 rfl _).trans ((KernelIdealRun.A_eq m c 1).trans (Cert.KernelIdeal.Gen.V_main_arg1 m c))),
      ((h.1 c).1 2).trans (((KernelIdealRun.dats m 0 c).arrAt_in 2 rfl _).trans ((KernelIdealRun.A_eq m c 2).trans (Cert.KernelIdeal.Gen.V_main_arg2 m c))),
      ((h.1 c).1 3).trans (((KernelIdealRun.dats m 0 c).arrAt_in 3 rfl _).trans ((KernelIdealRun.A_eq m c 3).trans (Cert.KernelIdeal.Gen.V_main_arg3 m c))),
      ((h.1 c).1 4).trans (((KernelIdealRun.dats m 0 c).arrAt_in 4 rfl _).trans ((KernelIdealRun.A_eq m c 4).trans (Cert.KernelIdeal.Gen.V_main_arg4 m c)))⟩)
      (KernelIdealRun.run_main m g fun c t => KernelArrays.finite_blk m c (fun r j => ?_) t)
    obtain ⟨x, hx, h0, -⟩ := hA c r j
    rw [hx]
    exact ⟨by exact_mod_cast h0, EReal.coe_lt_top x⟩
  · refine (θ_run Cert.ReferenceIdeal.defs _ _).mono (fun _ h c => ⟨((h c).1 5).trans ((RefArrays.final_w m' c).trans (funext fun i => ?_)),
      ((h c).1 6).trans ((RefArrays.final_m m' c).trans (funext fun i => ?_)), ((h c).1 7).trans ((RefArrays.final_v m' c).trans (funext fun i => ?_)),
      ((h c).1 8).trans ((RefArrays.final_u m' c).trans (funext fun i => ?_)), ((h c).1 9).trans ((RefArrays.final_code m' c).trans (funext fun i => ?_)),
      ((h c).1 10).trans ((RefArrays.final_byte m' c).trans (funext fun i => ?_)),
      ((h c).1 0).trans (((Cert.ReferenceIdeal.Gen.dats m' 0 c).arrAt_in 0 rfl _).trans ((Cert.ReferenceIdeal.Gen.A_eq m' c 0).trans (Cert.ReferenceIdeal.Gen.V_main_arg0 m' c))),
      ((h c).1 1).trans (((Cert.ReferenceIdeal.Gen.dats m' 0 c).arrAt_in 1 rfl _).trans ((Cert.ReferenceIdeal.Gen.A_eq m' c 1).trans (Cert.ReferenceIdeal.Gen.V_main_arg1 m' c))),
      ((h c).1 2).trans (((Cert.ReferenceIdeal.Gen.dats m' 0 c).arrAt_in 2 rfl _).trans ((Cert.ReferenceIdeal.Gen.A_eq m' c 2).trans (Cert.ReferenceIdeal.Gen.V_main_arg2 m' c))),
      ((h c).1 3).trans (((Cert.ReferenceIdeal.Gen.dats m' 0 c).arrAt_in 3 rfl _).trans ((Cert.ReferenceIdeal.Gen.A_eq m' c 3).trans (Cert.ReferenceIdeal.Gen.V_main_arg3 m' c))),
      ((h c).1 4).trans (((Cert.ReferenceIdeal.Gen.dats m' 0 c).arrAt_in 4 rfl _).trans ((Cert.ReferenceIdeal.Gen.A_eq m' c 4).trans (Cert.ReferenceIdeal.Gen.V_main_arg4 m' c)))⟩)
      (Cert.ReferenceIdeal.Gen.run_main m' g')
    · exact (congrArg (fun D => rW D (i 1)) (hR c (i 0))).trans (Step.w_eq _ _).symm
    · exact (congrArg (fun D => rM D (i 1)) (hR c (i 0))).trans (Step.m_eq _ _).symm
    · exact (congrArg (fun D => rV D (i 1)) (hR c (i 0))).trans (Step.v_eq _ _).symm
    · exact (congrArg (fun D => rU D (i 1)) (hR c (i 0))).trans (Step.u_eq _ _).symm
    · exact (congrArg (fun D => rCode D (i 1)) (hR c (i 0))).trans (Quant.code_eq _ (hA c (i 0)) _).symm
    · exact (congrArg (fun D => rByte D (i 1)) (hR c (i 0))).trans (Quant.byte_eq _ (hA c (i 0)) _).symm

end Cert.Proof.Algebraic

end
-- ==== Proof.lean ====
/-
  The proof of `Cert.Claim`: the frames of the kernel, of the idealized kernel and of the idealized reference; the
  named constants of the idealized kernel; and the equality of the six results.
-/
module

public import proofs.«01_k».proof.Defs
public import proofs.«01_k».proof.Proof.KernelFrame
public import proofs.«01_k».proof.Proof.KernelIdealFrame
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Precondition.facts,
  fun m ρ _ => KernelFrame.frame m ρ,
  fun m ρ _ => KernelIdealFrame.frame m ρ,
  fun m ρ _ => KernelIdealFrame.frame m ρ,
  fun m ρ _ => Cert.ReferenceIdeal.Gen.frame m ρ,
  fun m ρ _ => Cert.ReferenceIdeal.Gen.frame m ρ,
  ⟨IdealRules.named_const.statement Cert.KernelIdeal.κ "inv_bc1" .f32 0x3F91B733#32 ((100000000000000000000 / 87842334540943071199 : ℝ) : EReal) rfl,
   IdealRules.named_const.statement Cert.KernelIdeal.κ "inv_bc2" .f32 0x3FC78729#32 ((104857600000000000000000000 / 67267626542454041806644399 : ℝ) : EReal) rfl⟩,
  Algebraic.algebraic⟩

end Cert.Proof

end
